-- ==== Defs.lean ====
def Pre_Repack (m : (ℓ : Loc Cert.Repack.nD Cert.Repack.τ Cert.Repack.sig) → Buf (Elt Bits) ℓ) : Prop :=
  True

def Pre_RepackIdeal (m : (ℓ : Loc Cert.RepackIdeal.nD Cert.RepackIdeal.τ Cert.RepackIdeal.sig) → Buf (Elt Ideal) ℓ) : Prop :=
  True

def Pre_RepackRefIdeal (m : (ℓ : Loc Cert.RepackRefIdeal.nD Cert.RepackRefIdeal.τ Cert.RepackRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_Ff1RefIdeal (m : (ℓ : Loc Cert.Ff1RefIdeal.nD Cert.Ff1RefIdeal.τ Cert.Ff1RefIdeal.sig) → Buf (Elt Ideal) ℓ) : Prop :=
  True

def Pre_Ff2 (m : (ℓ : Loc Cert.Ff2.nD Cert.Ff2.τ Cert.Ff2.sig) → Buf (Elt Bits) ℓ) : Prop :=
  True

def Pre_Ff2Ideal (m : (ℓ : Loc Cert.Ff2Ideal.nD Cert.Ff2Ideal.τ Cert.Ff2Ideal.sig) → Buf (Elt Ideal) ℓ) : Prop :=
  True

def Pre_Ff2RefIdeal (m : (ℓ : Loc Cert.Ff2RefIdeal.nD Cert.Ff2RefIdeal.τ Cert.Ff2RefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_HeadsOut (m : (ℓ : Loc Cert.HeadsOut.nD Cert.HeadsOut.τ Cert.HeadsOut.sig) → Buf (Elt Bits) ℓ) : Prop :=
  True

def Pre_HeadsOutIdeal (m : (ℓ : Loc Cert.HeadsOutIdeal.nD Cert.HeadsOutIdeal.τ Cert.HeadsOutIdeal.sig) → Buf (Elt Ideal) ℓ) : Prop :=
  True

def Pre_HeadsOutRefIdeal (m : (ℓ : Loc Cert.HeadsOutRefIdeal.nD Cert.HeadsOutRefIdeal.τ Cert.HeadsOutRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnRefIdeal (m : (ℓ : Loc Cert.MemAttnRefIdeal.nD Cert.MemAttnRefIdeal.τ Cert.MemAttnRefIdeal.sig) → Buf (Elt Ideal) ℓ) : Prop :=
  True

def Pre_FoxGate (m : (ℓ : Loc Cert.FoxGate.nD Cert.FoxGate.τ Cert.FoxGate.sig) → Buf (Elt Bits) ℓ) : Prop :=
  True

def Pre_FoxGateIdeal (m : (ℓ : Loc Cert.FoxGateIdeal.nD Cert.FoxGateIdeal.τ Cert.FoxGateIdeal.sig) → Buf (Elt Ideal) ℓ) : Prop :=
  True

def Pre_FoxGateRefIdeal (m : (ℓ : Loc Cert.FoxGateRefIdeal.nD Cert.FoxGateRefIdeal.τ Cert.FoxGateRefIdeal.sig) → Buf (Elt Ideal) ℓ) : Prop :=
  True

def Pre_FoxAttn (m : (ℓ : Loc Cert.FoxAttn.nD Cert.FoxAttn.τ Cert.FoxAttn.sig) → Buf (Elt Bits) ℓ) : Prop :=
  True

def Pre_FoxAttnIdeal (m : (ℓ : Loc Cert.FoxAttnIdeal.nD Cert.FoxAttnIdeal.τ Cert.FoxAttnIdeal.sig) → Buf (Elt Ideal) ℓ) : Prop :=
  True

def quiescent_Repack [hRepack : Cert.Repack.Facts] : Prop :=
  ∀ (m : (ℓ : Loc Cert.Repack.nD Cert.Repack.τ Cert.Repack.sig) → Buf (Elt Bits) ℓ) (g : Dev Cert.Repack.nD → PrngReg), Pre_Repack m →
    θ_run (Cert.Repack.defs (F := Bits)) (onTc (τ := Cert.Repack.τ) (Cert.Repack.main (F := Bits))) ⟨m, fun _ => 0, g⟩ (fun r => (∀ c : Dev Cert.Repack.nD,
      r.2.mem ((c.tc : Thread Cert.Repack.nD Cert.Repack.τ).loc Cert.Repack.main_arg0) = m ((c.tc : Thread Cert.Repack.nD Cert.Repack.τ).loc Cert.Repack.main_arg0))
      ∧ r.2.sem = fun _ => 0)

def quiescent_RepackIdeal [hRepackIdeal : Cert.RepackIdeal.Facts] : Prop :=
  ∀ (m : (ℓ : Loc Cert.RepackIdeal.nD Cert.RepackIdeal.τ Cert.RepackIdeal.sig) → Buf (Elt Ideal) ℓ) (g : Dev Cert.RepackIdeal.nD → PrngReg), Pre_RepackIdeal m →
    θ_run (Cert.RepackIdeal.defs (F := Ideal)) (onTc (τ := Cert.RepackIdeal.τ) (Cert.RepackIdeal.main (F := Ideal))) ⟨m, fun _ => 0, g⟩ (fun r => (∀ c : Dev Cert.RepackIdeal.nD,
      r.2.mem ((c.tc : Thread Cert.RepackIdeal.nD Cert.RepackIdeal.τ).loc Cert.RepackIdeal.main_arg0) = m ((c.tc : Thread Cert.RepackIdeal.nD Cert.RepackIdeal.τ).loc Cert.RepackIdeal.main_arg0))
      ∧ r.2.sem = fun _ => 0)

def quiescent_RepackRefIdeal [hRepackRefIdeal : Cert.RepackRefIdeal.Facts] : Prop :=
  ∀ (m : (ℓ : Loc Cert.RepackRefIdeal.nD Cert.RepackRefIdeal.τ Cert.RepackRefIdeal.sig) → Buf (Elt Ideal) ℓ) (g : Dev Cert.RepackRefIdeal.nD → PrngReg), Pre_RepackRefIdeal m →
    θ_run (Cert.RepackRefIdeal.defs (F := Ideal)) (onTc (τ := Cert.RepackRefIdeal.τ) (Cert.RepackRefIdeal.main (F := Ideal))) ⟨m, fun _ => 0, g⟩ (fun r => (∀ c : Dev Cert.RepackRefIdeal.nD,
      r.2.mem ((c.tc : Thread Cert.RepackRefIdeal.nD Cert.RepackRefIdeal.τ).loc Cert.RepackRefIdeal.main_arg0) = m ((c.tc : Thread Cert.RepackRefIdeal.nD Cert.RepackRefIdeal.τ).loc Cert.RepackRefIdeal.main_arg0))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1)
      ∧ r.2.mem ((c.tc : Thread Cert.Ff1.nD Cert.Ff1.τ).loc Cert.Ff1.main_arg2) = m ((c.tc : Thread Cert.Ff1.nD Cert.Ff1.τ).loc Cert.Ff1.main_arg2))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1)
      ∧ r.2.mem ((c.tc : Thread Cert.Ff1Ideal.nD Cert.Ff1Ideal.τ).loc Cert.Ff1Ideal.main_arg2) = m ((c.tc : Thread Cert.Ff1Ideal.nD Cert.Ff1Ideal.τ).loc Cert.Ff1Ideal.main_arg2))
      ∧ r.2.sem = fun _ => 0)

def quiescent_Ff1RefIdeal [hFf1RefIdeal : Cert.Ff1RefIdeal.Facts] : Prop :=
  ∀ (m : (ℓ : Loc Cert.Ff1RefIdeal.nD Cert.Ff1RefIdeal.τ Cert.Ff1RefIdeal.sig) → Buf (Elt Ideal) ℓ) (g : Dev Cert.Ff1RefIdeal.nD → PrngReg), Pre_Ff1RefIdeal m →
    θ_run (Cert.Ff1RefIdeal.defs (F := Ideal)) (onTc (τ := Cert.Ff1RefIdeal.τ) (Cert.Ff1RefIdeal.main (F := Ideal))) ⟨m, fun _ => 0, g⟩ (fun r => (∀ c : Dev Cert.Ff1RefIdeal.nD,
      r.2.mem ((c.tc : Thread Cert.Ff1RefIdeal.nD Cert.Ff1RefIdeal.τ).loc Cert.Ff1RefIdeal.main_arg0) = m ((c.tc : Thread Cert.Ff1RefIdeal.nD Cert.Ff1RefIdeal.τ).loc Cert.Ff1RefIdeal.main_arg0)
      ∧ r.2.mem ((c.tc : Thread Cert.Ff1RefIdeal.nD Cert.Ff1RefIdeal.τ).loc Cert.Ff1RefIdeal.main_arg1) = m ((c.tc : Thread Cert.Ff1RefIdeal.nD Cert.Ff1RefIdeal.τ).loc Cert.Ff1RefIdeal.main_arg1)
      ∧ r.2.mem ((c.tc : Thread Cert.Ff1RefIdeal.nD Cert.Ff1RefIdeal.τ).loc Cert.Ff1RefIdeal.main_arg2) = m ((c.tc : Thread Cert.Ff1RefIdeal.nD Cert.Ff1RefIdeal.τ).loc Cert.Ff1RefIdeal.main_arg2))
      ∧ r.2.sem = fun _ => 0)

def quiescent_Ff2 [hFf2 : Cert.Ff2.Facts] : Prop :=
  ∀ (m : (ℓ : Loc Cert.Ff2.nD Cert.Ff2.τ Cert.Ff2.sig) → Buf (Elt Bits) ℓ) (g : Dev Cert.Ff2.nD → PrngReg), Pre_Ff2 m →
    θ_run (Cert.Ff2.defs (F := Bits)) (onTc (τ := Cert.Ff2.τ) (Cert.Ff2.main (F := Bits))) ⟨m, fun _ => 0, g⟩ (fun r => (∀ c : Dev Cert.Ff2.nD,
      r.2.mem ((c.tc : Thread Cert.Ff2.nD Cert.Ff2.τ).loc Cert.Ff2.main_arg0) = m ((c.tc : Thread Cert.Ff2.nD Cert.Ff2.τ).loc Cert.Ff2.main_arg0)
      ∧ r.2.mem ((c.tc : Thread Cert.Ff2.nD Cert.Ff2.τ).loc Cert.Ff2.main_arg1) = m ((c.tc : Thread Cert.Ff2.nD Cert.Ff2.τ).loc Cert.Ff2.main_arg1)
      ∧ r.2.mem ((c.tc : Thread Cert.Ff2.nD Cert.Ff2.τ).loc Cert.Ff2.main_arg2) = m ((c.tc : Thread Cert.Ff2.nD Cert.Ff2.τ).loc Cert.Ff2.main_arg2))
      ∧ r.2.sem = fun _ => 0)

def quiescent_Ff2Ideal [hFf2Ideal : Cert.Ff2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
      ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2))
      ∧ r.2.sem = fun _ => 0)

def quiescent_Ff2RefIdeal [hFf2RefIdeal : Cert.Ff2RefIdeal.Facts] : Prop :=
  ∀ (m : (ℓ : Loc Cert.Ff2RefIdeal.nD Cert.Ff2RefIdeal.τ Cert.Ff2RefIdeal.sig) → Buf (Elt Ideal) ℓ) (g : Dev Cert.Ff2RefIdeal.nD → PrngReg), Pre_Ff2RefIdeal m →
    θ_run (Cert.Ff2RefIdeal.defs (F := Ideal)) (onTc (τ := Cert.Ff2RefIdeal.τ) (Cert.Ff2RefIdeal.main (F := Ideal))) ⟨m, fun _ => 0, g⟩ (fun r => (∀ c : Dev Cert.Ff2RefIdeal.nD,
      r.2.mem ((c.tc : Thread Cert.Ff2RefIdeal.nD Cert.Ff2RefIdeal.τ).loc Cert.Ff2RefIdeal.main_arg0) = m ((c.tc : Thread Cert.Ff2RefIdeal.nD Cert.Ff2RefIdeal.τ).loc Cert.Ff2RefIdeal.main_arg0)
      ∧ r.2.mem ((c.tc : Thread Cert.Ff2RefIdeal.nD Cert.Ff2RefIdeal.τ).loc Cert.Ff2RefIdeal.main_arg1) = m ((c.tc : Thread Cert.Ff2RefIdeal.nD Cert.Ff2RefIdeal.τ).loc Cert.Ff2RefIdeal.main_arg1)
      ∧ r.2.mem ((c.tc : Thread Cert.Ff2RefIdeal.nD Cert.Ff2RefIdeal.τ).loc Cert.Ff2RefIdeal.main_arg2) = m ((c.tc : Thread Cert.Ff2RefIdeal.nD Cert.Ff2RefIdeal.τ).loc Cert.Ff2RefIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def quiescent_HeadsOut [hHeadsOut : Cert.HeadsOut.Facts] : Prop :=
  ∀ (m : (ℓ : Loc Cert.HeadsOut.nD Cert.HeadsOut.τ Cert.HeadsOut.sig) → Buf (Elt Bits) ℓ) (g : Dev Cert.HeadsOut.nD → PrngReg), Pre_HeadsOut m →
    θ_run (Cert.HeadsOut.defs (F := Bits)) (onTc (τ := Cert.HeadsOut.τ) (Cert.HeadsOut.main (F := Bits))) ⟨m, fun _ => 0, g⟩ (fun r => (∀ c : Dev Cert.HeadsOut.nD,
      r.2.mem ((c.tc : Thread Cert.HeadsOut.nD Cert.HeadsOut.τ).loc Cert.HeadsOut.main_arg0) = m ((c.tc : Thread Cert.HeadsOut.nD Cert.HeadsOut.τ).loc Cert.HeadsOut.main_arg0)
      ∧ r.2.mem ((c.tc : Thread Cert.HeadsOut.nD Cert.HeadsOut.τ).loc Cert.HeadsOut.main_arg1) = m ((c.tc : Thread Cert.HeadsOut.nD Cert.HeadsOut.τ).loc Cert.HeadsOut.main_arg1)
      ∧ r.2.mem ((c.tc : Thread Cert.HeadsOut.nD Cert.HeadsOut.τ).loc Cert.HeadsOut.main_arg2) = m ((c.tc : Thread Cert.HeadsOut.nD Cert.HeadsOut.τ).loc Cert.HeadsOut.main_arg2))
      ∧ r.2.sem = fun _ => 0)

def quiescent_HeadsOutIdeal [hHeadsOutIdeal : Cert.HeadsOutIdeal.Facts] : Prop :=
  ∀ (m : (ℓ : Loc Cert.HeadsOutIdeal.nD Cert.HeadsOutIdeal.τ Cert.HeadsOutIdeal.sig) → Buf (Elt Ideal) ℓ) (g : Dev Cert.HeadsOutIdeal.nD → PrngReg), Pre_HeadsOutIdeal m →
    θ_run (Cert.HeadsOutIdeal.defs (F := Ideal)) (onTc (τ := Cert.HeadsOutIdeal.τ) (Cert.HeadsOutIdeal.main (F := Ideal))) ⟨m, fun _ => 0, g⟩ (fun r => (∀ c : Dev Cert.HeadsOutIdeal.nD,
      r.2.mem ((c.tc : Thread Cert.HeadsOutIdeal.nD Cert.HeadsOutIdeal.τ).loc Cert.HeadsOutIdeal.main_arg0) = m ((c.tc : Thread Cert.HeadsOutIdeal.nD Cert.HeadsOutIdeal.τ).loc Cert.HeadsOutIdeal.main_arg0)
      ∧ r.2.mem ((c.tc : Thread Cert.HeadsOutIdeal.nD Cert.HeadsOutIdeal.τ).loc Cert.HeadsOutIdeal.main_arg1) = m ((c.tc : Thread Cert.HeadsOutIdeal.nD Cert.HeadsOutIdeal.τ).loc Cert.HeadsOutIdeal.main_arg1)
      ∧ r.2.mem ((c.tc : Thread Cert.HeadsOutIdeal.nD Cert.HeadsOutIdeal.τ).loc Cert.HeadsOutIdeal.main_arg2) = m ((c.tc : Thread Cert.HeadsOutIdeal.nD Cert.HeadsOutIdeal.τ).loc Cert.HeadsOutIdeal.main_arg2))
      ∧ r.2.sem = fun _ => 0)

def quiescent_HeadsOutRefIdeal [hHeadsOutRefIdeal : Cert.HeadsOutRefIdeal.Facts] : Prop :=
  ∀ (m : (ℓ : Loc Cert.HeadsOutRefIdeal.nD Cert.HeadsOutRefIdeal.τ Cert.HeadsOutRefIdeal.sig) → Buf (Elt Ideal) ℓ) (g : Dev Cert.HeadsOutRefIdeal.nD → PrngReg), Pre_HeadsOutRefIdeal m →
    θ_run (Cert.HeadsOutRefIdeal.defs (F := Ideal)) (onTc (τ := Cert.HeadsOutRefIdeal.τ) (Cert.HeadsOutRefIdeal.main (F := Ideal))) ⟨m, fun _ => 0, g⟩ (fun r => (∀ c : Dev Cert.HeadsOutRefIdeal.nD,
      r.2.mem ((c.tc : Thread Cert.HeadsOutRefIdeal.nD Cert.HeadsOutRefIdeal.τ).loc Cert.HeadsOutRefIdeal.main_arg0) = m ((c.tc : Thread Cert.HeadsOutRefIdeal.nD Cert.HeadsOutRefIdeal.τ).loc Cert.HeadsOutRefIdeal.main_arg0)
      ∧ r.2.mem ((c.tc : Thread Cert.HeadsOutRefIdeal.nD Cert.HeadsOutRefIdeal.τ).loc Cert.HeadsOutRefIdeal.main_arg1) = m ((c.tc : Thread Cert.HeadsOutRefIdeal.nD Cert.HeadsOutRefIdeal.τ).loc Cert.HeadsOutRefIdeal.main_arg1)
      ∧ r.2.mem ((c.tc : Thread Cert.HeadsOutRefIdeal.nD Cert.HeadsOutRefIdeal.τ).loc Cert.HeadsOutRefIdeal.main_arg2) = m ((c.tc : Thread Cert.HeadsOutRefIdeal.nD Cert.HeadsOutRefIdeal.τ).loc Cert.HeadsOutRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1))
      ∧ r.2.sem = fun _ => 0)

def quiescent_FoxGate [hFoxGate : Cert.FoxGate.Facts] : Prop :=
  ∀ (m : (ℓ : Loc Cert.FoxGate.nD Cert.FoxGate.τ Cert.FoxGate.sig) → Buf (Elt Bits) ℓ) (g : Dev Cert.FoxGate.nD → PrngReg), Pre_FoxGate m →
    θ_run (Cert.FoxGate.defs (F := Bits)) (onTc (τ := Cert.FoxGate.τ) (Cert.FoxGate.main (F := Bits))) ⟨m, fun _ => 0, g⟩ (fun r => (∀ c : Dev Cert.FoxGate.nD,
      r.2.mem ((c.tc : Thread Cert.FoxGate.nD Cert.FoxGate.τ).loc Cert.FoxGate.main_arg0) = m ((c.tc : Thread Cert.FoxGate.nD Cert.FoxGate.τ).loc Cert.FoxGate.main_arg0)
      ∧ r.2.mem ((c.tc : Thread Cert.FoxGate.nD Cert.FoxGate.τ).loc Cert.FoxGate.main_arg1) = m ((c.tc : Thread Cert.FoxGate.nD Cert.FoxGate.τ).loc Cert.FoxGate.main_arg1))
      ∧ r.2.sem = fun _ => 0)

def quiescent_FoxGateIdeal [hFoxGateIdeal : Cert.FoxGateIdeal.Facts] : Prop :=
  ∀ (m : (ℓ : Loc Cert.FoxGateIdeal.nD Cert.FoxGateIdeal.τ Cert.FoxGateIdeal.sig) → Buf (Elt Ideal) ℓ) (g : Dev Cert.FoxGateIdeal.nD → PrngReg), Pre_FoxGateIdeal m →
    θ_run (Cert.FoxGateIdeal.defs (F := Ideal)) (onTc (τ := Cert.FoxGateIdeal.τ) (Cert.FoxGateIdeal.main (F := Ideal))) ⟨m, fun _ => 0, g⟩ (fun r => (∀ c : Dev Cert.FoxGateIdeal.nD,
      r.2.mem ((c.tc : Thread Cert.FoxGateIdeal.nD Cert.FoxGateIdeal.τ).loc Cert.FoxGateIdeal.main_arg0) = m ((c.tc : Thread Cert.FoxGateIdeal.nD Cert.FoxGateIdeal.τ).loc Cert.FoxGateIdeal.main_arg0)
      ∧ r.2.mem ((c.tc : Thread Cert.FoxGateIdeal.nD Cert.FoxGateIdeal.τ).loc Cert.FoxGateIdeal.main_arg1) = m ((c.tc : Thread Cert.FoxGateIdeal.nD Cert.FoxGateIdeal.τ).loc Cert.FoxGateIdeal.main_arg1))
      ∧ r.2.sem = fun _ => 0)

def quiescent_FoxGateRefIdeal [hFoxGateRefIdeal : Cert.FoxGateRefIdeal.Facts] : Prop :=
  ∀ (m : (ℓ : Loc Cert.FoxGateRefIdeal.nD Cert.FoxGateRefIdeal.τ Cert.FoxGateRefIdeal.sig) → Buf (Elt Ideal) ℓ) (g : Dev Cert.FoxGateRefIdeal.nD → PrngReg), Pre_FoxGateRefIdeal m →
    θ_run (Cert.FoxGateRefIdeal.defs (F := Ideal)) (onTc (τ := Cert.FoxGateRefIdeal.τ) (Cert.FoxGateRefIdeal.main (F := Ideal))) ⟨m, fun _ => 0, g⟩ (fun r => (∀ c : Dev Cert.FoxGateRefIdeal.nD,
      r.2.mem ((c.tc : Thread Cert.FoxGateRefIdeal.nD Cert.FoxGateRefIdeal.τ).loc Cert.FoxGateRefIdeal.main_arg0) = m ((c.tc : Thread Cert.FoxGateRefIdeal.nD Cert.FoxGateRefIdeal.τ).loc Cert.FoxGateRefIdeal.main_arg0)
      ∧ r.2.mem ((c.tc : Thread Cert.FoxGateRefIdeal.nD Cert.FoxGateRefIdeal.τ).loc Cert.FoxGateRefIdeal.main_arg1) = m ((c.tc : Thread Cert.FoxGateRefIdeal.nD Cert.FoxGateRefIdeal.τ).loc Cert.FoxGateRefIdeal.main_arg1))
      ∧ r.2.sem = fun _ => 0)

def quiescent_FoxAttn [hFoxAttn : Cert.FoxAttn.Facts] : Prop :=
  ∀ (m : (ℓ : Loc Cert.FoxAttn.nD Cert.FoxAttn.τ Cert.FoxAttn.sig) → Buf (Elt Bits) ℓ) (g : Dev Cert.FoxAttn.nD → PrngReg), Pre_FoxAttn m →
    θ_run (Cert.FoxAttn.defs (F := Bits)) (onTc (τ := Cert.FoxAttn.τ) (Cert.FoxAttn.main (F := Bits))) ⟨m, fun _ => 0, g⟩ (fun r => (∀ c : Dev Cert.FoxAttn.nD,
      r.2.mem ((c.tc : Thread Cert.FoxAttn.nD Cert.FoxAttn.τ).loc Cert.FoxAttn.main_arg0) = m ((c.tc : Thread Cert.FoxAttn.nD Cert.FoxAttn.τ).loc Cert.FoxAttn.main_arg0)
      ∧ r.2.mem ((c.tc : Thread Cert.FoxAttn.nD Cert.FoxAttn.τ).loc Cert.FoxAttn.main_arg1) = m ((c.tc : Thread Cert.FoxAttn.nD Cert.FoxAttn.τ).loc Cert.FoxAttn.main_arg1)
      ∧ r.2.mem ((c.tc : Thread Cert.FoxAttn.nD Cert.FoxAttn.τ).loc Cert.FoxAttn.main_arg2) = m ((c.tc : Thread Cert.FoxAttn.nD Cert.FoxAttn.τ).loc Cert.FoxAttn.main_arg2))
      ∧ r.2.sem = fun _ => 0)

def quiescent_FoxAttnIdeal [hFoxAttnIdeal : Cert.FoxAttnIdeal.Facts] : Prop :=
  ∀ (m : (ℓ : Loc Cert.FoxAttnIdeal.nD Cert.FoxAttnIdeal.τ Cert.FoxAttnIdeal.sig) → Buf (Elt Ideal) ℓ) (g : Dev Cert.FoxAttnIdeal.nD → PrngReg), Pre_FoxAttnIdeal m →
    θ_run (Cert.FoxAttnIdeal.defs (F := Ideal)) (onTc (τ := Cert.FoxAttnIdeal.τ) (Cert.FoxAttnIdeal.main (F := Ideal))) ⟨m, fun _ => 0, g⟩ (fun r => (∀ c : Dev Cert.FoxAttnIdeal.nD,
      r.2.mem ((c.tc : Thread Cert.FoxAttnIdeal.nD Cert.FoxAttnIdeal.τ).loc Cert.FoxAttnIdeal.main_arg0) = m ((c.tc : Thread Cert.FoxAttnIdeal.nD Cert.FoxAttnIdeal.τ).loc Cert.FoxAttnIdeal.main_arg0)
      ∧ r.2.mem ((c.tc : Thread Cert.FoxAttnIdeal.nD Cert.FoxAttnIdeal.τ).loc Cert.FoxAttnIdeal.main_arg1) = m ((c.tc : Thread Cert.FoxAttnIdeal.nD Cert.FoxAttnIdeal.τ).loc Cert.FoxAttnIdeal.main_arg1)
      ∧ r.2.mem ((c.tc : Thread Cert.FoxAttnIdeal.nD Cert.FoxAttnIdeal.τ).loc Cert.FoxAttnIdeal.main_arg2) = m ((c.tc : Thread Cert.FoxAttnIdeal.nD Cert.FoxAttnIdeal.τ).loc Cert.FoxAttnIdeal.main_arg2))
      ∧ r.2.sem = fun _ => 0)

def preserves_Repack_RepackIdeal : Prop :=
  True

def algebraic_RepackIdeal_RepackRefIdeal [hRepackIdeal : Cert.RepackIdeal.Facts] [hRepackRefIdeal : Cert.RepackRefIdeal.Facts] : Prop :=
  ∀ (m : (ℓ : Loc Cert.RepackIdeal.nD Cert.RepackIdeal.τ Cert.RepackIdeal.sig) → Buf (Elt Ideal) ℓ) (g : Dev Cert.RepackIdeal.nD → PrngReg)
    (m' : (ℓ : Loc Cert.RepackRefIdeal.nD Cert.RepackRefIdeal.τ Cert.RepackRefIdeal.sig) → Buf (Elt Ideal) ℓ) (g' : Dev Cert.RepackRefIdeal.nD → PrngReg), Pre_RepackIdeal m →
    (∀ c : Dev Cert.RepackIdeal.nD,
      m' ((c.tc : Thread Cert.RepackRefIdeal.nD Cert.RepackRefIdeal.τ).loc Cert.RepackRefIdeal.main_arg0) = m ((c.tc : Thread Cert.RepackIdeal.nD Cert.RepackIdeal.τ).loc Cert.RepackIdeal.main_arg0)) →
    ∃ (v0 : (c : Dev Cert.RepackIdeal.nD) → Buf (Elt Ideal) ((c.tc : Thread Cert.RepackIdeal.nD Cert.RepackIdeal.τ).loc Cert.RepackIdeal.main_v1)),
      θ_run (Cert.RepackIdeal.defs (F := Ideal)) (onTc (τ := Cert.RepackIdeal.τ) (Cert.RepackIdeal.main (F := Ideal))) ⟨m, fun _ => 0, g⟩ (fun r => ∀ c : Dev Cert.RepackIdeal.nD,
          r.2.mem ((c.tc : Thread Cert.RepackIdeal.nD Cert.RepackIdeal.τ).loc Cert.RepackIdeal.main_v1) = v0 c
          ∧ r.2.mem ((c.tc : Thread Cert.RepackIdeal.nD Cert.RepackIdeal.τ).loc Cert.RepackIdeal.main_arg0) = m ((c.tc : Thread Cert.RepackIdeal.nD Cert.RepackIdeal.τ).loc Cert.RepackIdeal.main_arg0))
      ∧ θ_run (Cert.RepackRefIdeal.defs (F := Ideal)) (onTc (τ := Cert.RepackRefIdeal.τ) (Cert.RepackRefIdeal.main (F := Ideal))) ⟨m', fun _ => 0, g'⟩ (fun r => ∀ c : Dev Cert.RepackRefIdeal.nD,
          r.2.mem ((c.tc : Thread Cert.RepackRefIdeal.nD Cert.RepackRefIdeal.τ).loc Cert.RepackRefIdeal.main_v10) = v0 c
          ∧ r.2.mem ((c.tc : Thread Cert.RepackRefIdeal.nD Cert.RepackRefIdeal.τ).loc Cert.RepackRefIdeal.main_arg0) = m' ((c.tc : Thread Cert.RepackRefIdeal.nD Cert.RepackRefIdeal.τ).loc Cert.RepackRefIdeal.main_arg0))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v1_0)) (v1 : (c : Dev Cert.InProjIdeal.nD) → Buf (Elt Ideal) ((c.tc : Thread Cert.InProjIdeal.nD Cert.InProjIdeal.τ).loc Cert.InProjIdeal.main_v1_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1_0) = v0 c
          ∧ r.2.mem ((c.tc : Thread Cert.InProjIdeal.nD Cert.InProjIdeal.τ).loc Cert.InProjIdeal.main_v1_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v15) = v0 c
          ∧ r.2.mem ((c.tc : Thread Cert.InProjRefIdeal.nD Cert.InProjRefIdeal.τ).loc Cert.InProjRefIdeal.main_v16) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_Ff1_Ff1Ideal : Prop :=
  True

def algebraic_Ff1Ideal_Ff1RefIdeal [hFf1Ideal : Cert.Ff1Ideal.Facts] [hFf1RefIdeal : Cert.Ff1RefIdeal.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.Ff1RefIdeal.nD Cert.Ff1RefIdeal.τ Cert.Ff1RefIdeal.sig) → Buf (Elt Ideal) ℓ) (g' : Dev Cert.Ff1RefIdeal.nD → PrngReg), Pre_Ff1Ideal m →
    (∀ c : Dev Cert.Ff1Ideal.nD,
      m' ((c.tc : Thread Cert.Ff1RefIdeal.nD Cert.Ff1RefIdeal.τ).loc Cert.Ff1RefIdeal.main_arg0) = m ((c.tc : Thread Cert.Ff1Ideal.nD Cert.Ff1Ideal.τ).loc Cert.Ff1Ideal.main_arg0)
      ∧ m' ((c.tc : Thread Cert.Ff1RefIdeal.nD Cert.Ff1RefIdeal.τ).loc Cert.Ff1RefIdeal.main_arg1) = m ((c.tc : Thread Cert.Ff1Ideal.nD Cert.Ff1Ideal.τ).loc Cert.Ff1Ideal.main_arg1)
      ∧ m' ((c.tc : Thread Cert.Ff1RefIdeal.nD Cert.Ff1RefIdeal.τ).loc Cert.Ff1RefIdeal.main_arg2) = m ((c.tc : Thread Cert.Ff1Ideal.nD Cert.Ff1Ideal.τ).loc Cert.Ff1Ideal.main_arg2)) →
    ∃ (v0 : (c : Dev Cert.Ff1Ideal.nD) → Buf (Elt Ideal) ((c.tc : Thread Cert.Ff1Ideal.nD Cert.Ff1Ideal.τ).loc Cert.Ff1Ideal.main_v4)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v4) = v0 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1)
          ∧ r.2.mem ((c.tc : Thread Cert.Ff1Ideal.nD Cert.Ff1Ideal.τ).loc Cert.Ff1Ideal.main_arg2) = m ((c.tc : Thread Cert.Ff1Ideal.nD Cert.Ff1Ideal.τ).loc Cert.Ff1Ideal.main_arg2))
      ∧ θ_run (Cert.Ff1RefIdeal.defs (F := Ideal)) (onTc (τ := Cert.Ff1RefIdeal.τ) (Cert.Ff1RefIdeal.main (F := Ideal))) ⟨m', fun _ => 0, g'⟩ (fun r => ∀ c : Dev Cert.Ff1RefIdeal.nD,
          r.2.mem ((c.tc : Thread Cert.Ff1RefIdeal.nD Cert.Ff1RefIdeal.τ).loc Cert.Ff1RefIdeal.main_v20) = v0 c
          ∧ r.2.mem ((c.tc : Thread Cert.Ff1RefIdeal.nD Cert.Ff1RefIdeal.τ).loc Cert.Ff1RefIdeal.main_arg0) = m' ((c.tc : Thread Cert.Ff1RefIdeal.nD Cert.Ff1RefIdeal.τ).loc Cert.Ff1RefIdeal.main_arg0)
          ∧ r.2.mem ((c.tc : Thread Cert.Ff1RefIdeal.nD Cert.Ff1RefIdeal.τ).loc Cert.Ff1RefIdeal.main_arg1) = m' ((c.tc : Thread Cert.Ff1RefIdeal.nD Cert.Ff1RefIdeal.τ).loc Cert.Ff1RefIdeal.main_arg1)
          ∧ r.2.mem ((c.tc : Thread Cert.Ff1RefIdeal.nD Cert.Ff1RefIdeal.τ).loc Cert.Ff1RefIdeal.main_arg2) = m' ((c.tc : Thread Cert.Ff1RefIdeal.nD Cert.Ff1RefIdeal.τ).loc Cert.Ff1RefIdeal.main_arg2))

def preserves_Ff2_Ff2Ideal : Prop :=
  True

def algebraic_Ff2Ideal_Ff2RefIdeal [hFf2Ideal : Cert.Ff2Ideal.Facts] [hFf2RefIdeal : Cert.Ff2RefIdeal.Facts] : Prop :=
  ∀ (m : (ℓ : Loc Cert.Ff2Ideal.nD Cert.Ff2Ideal.τ Cert.Ff2Ideal.sig) → Buf (Elt Ideal) ℓ) (g : Dev Cert.Ff2Ideal.nD → PrngReg)
    (m' : (ℓ : Loc Cert.Ff2RefIdeal.nD Cert.Ff2RefIdeal.τ Cert.Ff2RefIdeal.sig) → Buf (Elt Ideal) ℓ) (g' : Dev Cert.Ff2RefIdeal.nD → PrngReg), Pre_Ff2Ideal m →
    (∀ c : Dev Cert.Ff2Ideal.nD,
      m' ((c.tc : Thread Cert.Ff2RefIdeal.nD Cert.Ff2RefIdeal.τ).loc Cert.Ff2RefIdeal.main_arg0) = m ((c.tc : Thread Cert.Ff2Ideal.nD Cert.Ff2Ideal.τ).loc Cert.Ff2Ideal.main_arg0)
      ∧ m' ((c.tc : Thread Cert.Ff2RefIdeal.nD Cert.Ff2RefIdeal.τ).loc Cert.Ff2RefIdeal.main_arg1) = m ((c.tc : Thread Cert.Ff2Ideal.nD Cert.Ff2Ideal.τ).loc Cert.Ff2Ideal.main_arg1)
      ∧ m' ((c.tc : Thread Cert.Ff2RefIdeal.nD Cert.Ff2RefIdeal.τ).loc Cert.Ff2RefIdeal.main_arg2) = m ((c.tc : Thread Cert.Ff2Ideal.nD Cert.Ff2Ideal.τ).loc Cert.Ff2Ideal.main_arg2)) →
    ∃ (v0 : (c : Dev Cert.Ff2Ideal.nD) → Buf (Elt Ideal) ((c.tc : Thread Cert.Ff2Ideal.nD Cert.Ff2Ideal.τ).loc Cert.Ff2Ideal.main_v1)),
      θ_run (Cert.Ff2Ideal.defs (F := Ideal)) (onTc (τ := Cert.Ff2Ideal.τ) (Cert.Ff2Ideal.main (F := Ideal))) ⟨m, fun _ => 0, g⟩ (fun r => ∀ c : Dev Cert.Ff2Ideal.nD,
          r.2.mem ((c.tc : Thread Cert.Ff2Ideal.nD Cert.Ff2Ideal.τ).loc Cert.Ff2Ideal.main_v1) = v0 c
          ∧ r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
          ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
          ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2))
      ∧ θ_run (Cert.Ff2RefIdeal.defs (F := Ideal)) (onTc (τ := Cert.Ff2RefIdeal.τ) (Cert.Ff2RefIdeal.main (F := Ideal))) ⟨m', fun _ => 0, g'⟩ (fun r => ∀ c : Dev Cert.Ff2RefIdeal.nD,
          r.2.mem ((c.tc : Thread Cert.Ff2RefIdeal.nD Cert.Ff2RefIdeal.τ).loc Cert.Ff2RefIdeal.main_v4) = v0 c
          ∧ r.2.mem ((c.tc : Thread Cert.Ff2RefIdeal.nD Cert.Ff2RefIdeal.τ).loc Cert.Ff2RefIdeal.main_arg0) = m' ((c.tc : Thread Cert.Ff2RefIdeal.nD Cert.Ff2RefIdeal.τ).loc Cert.Ff2RefIdeal.main_arg0)
          ∧ r.2.mem ((c.tc : Thread Cert.Ff2RefIdeal.nD Cert.Ff2RefIdeal.τ).loc Cert.Ff2RefIdeal.main_arg1) = m' ((c.tc : Thread Cert.Ff2RefIdeal.nD Cert.Ff2RefIdeal.τ).loc Cert.Ff2RefIdeal.main_arg1)
          ∧ r.2.mem ((c.tc : Thread Cert.Ff2RefIdeal.nD Cert.Ff2RefIdeal.τ).loc Cert.Ff2RefIdeal.main_arg2) = m' ((c.tc : Thread Cert.Ff2RefIdeal.nD Cert.Ff2RefIdeal.τ).loc Cert.Ff2RefIdeal.main_arg2))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v2)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v2) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v3) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v12) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def preserves_HeadsOut_HeadsOutIdeal : Prop :=
  True

def algebraic_HeadsOutIdeal_HeadsOutRefIdeal [hHeadsOutIdeal : Cert.HeadsOutIdeal.Facts] [hHeadsOutRefIdeal : Cert.HeadsOutRefIdeal.Facts] : Prop :=
  ∀ (m : (ℓ : Loc Cert.HeadsOutIdeal.nD Cert.HeadsOutIdeal.τ Cert.HeadsOutIdeal.sig) → Buf (Elt Ideal) ℓ) (g : Dev Cert.HeadsOutIdeal.nD → PrngReg)
    (m' : (ℓ : Loc Cert.HeadsOutRefIdeal.nD Cert.HeadsOutRefIdeal.τ Cert.HeadsOutRefIdeal.sig) → Buf (Elt Ideal) ℓ) (g' : Dev Cert.HeadsOutRefIdeal.nD → PrngReg), Pre_HeadsOutIdeal m →
    (∀ c : Dev Cert.HeadsOutIdeal.nD,
      m' ((c.tc : Thread Cert.HeadsOutRefIdeal.nD Cert.HeadsOutRefIdeal.τ).loc Cert.HeadsOutRefIdeal.main_arg0) = m ((c.tc : Thread Cert.HeadsOutIdeal.nD Cert.HeadsOutIdeal.τ).loc Cert.HeadsOutIdeal.main_arg0)
      ∧ m' ((c.tc : Thread Cert.HeadsOutRefIdeal.nD Cert.HeadsOutRefIdeal.τ).loc Cert.HeadsOutRefIdeal.main_arg1) = m ((c.tc : Thread Cert.HeadsOutIdeal.nD Cert.HeadsOutIdeal.τ).loc Cert.HeadsOutIdeal.main_arg1)
      ∧ m' ((c.tc : Thread Cert.HeadsOutRefIdeal.nD Cert.HeadsOutRefIdeal.τ).loc Cert.HeadsOutRefIdeal.main_arg2) = m ((c.tc : Thread Cert.HeadsOutIdeal.nD Cert.HeadsOutIdeal.τ).loc Cert.HeadsOutIdeal.main_arg2)) →
    ∃ (v0 : (c : Dev Cert.HeadsOutIdeal.nD) → Buf (Elt Ideal) ((c.tc : Thread Cert.HeadsOutIdeal.nD Cert.HeadsOutIdeal.τ).loc Cert.HeadsOutIdeal.main_v0_0)) (v1 : (c : Dev Cert.HeadsOutIdeal.nD) → Buf (Elt Ideal) ((c.tc : Thread Cert.HeadsOutIdeal.nD Cert.HeadsOutIdeal.τ).loc Cert.HeadsOutIdeal.main_v0_1)),
      θ_run (Cert.HeadsOutIdeal.defs (F := Ideal)) (onTc (τ := Cert.HeadsOutIdeal.τ) (Cert.HeadsOutIdeal.main (F := Ideal))) ⟨m, fun _ => 0, g⟩ (fun r => ∀ c : Dev Cert.HeadsOutIdeal.nD,
          r.2.mem ((c.tc : Thread Cert.HeadsOutIdeal.nD Cert.HeadsOutIdeal.τ).loc Cert.HeadsOutIdeal.main_v0_0) = v0 c
          ∧ r.2.mem ((c.tc : Thread Cert.HeadsOutIdeal.nD Cert.HeadsOutIdeal.τ).loc Cert.HeadsOutIdeal.main_v0_1) = v1 c
          ∧ r.2.mem ((c.tc : Thread Cert.HeadsOutIdeal.nD Cert.HeadsOutIdeal.τ).loc Cert.HeadsOutIdeal.main_arg0) = m ((c.tc : Thread Cert.HeadsOutIdeal.nD Cert.HeadsOutIdeal.τ).loc Cert.HeadsOutIdeal.main_arg0)
          ∧ r.2.mem ((c.tc : Thread Cert.HeadsOutIdeal.nD Cert.HeadsOutIdeal.τ).loc Cert.HeadsOutIdeal.main_arg1) = m ((c.tc : Thread Cert.HeadsOutIdeal.nD Cert.HeadsOutIdeal.τ).loc Cert.HeadsOutIdeal.main_arg1)
          ∧ r.2.mem ((c.tc : Thread Cert.HeadsOutIdeal.nD Cert.HeadsOutIdeal.τ).loc Cert.HeadsOutIdeal.main_arg2) = m ((c.tc : Thread Cert.HeadsOutIdeal.nD Cert.HeadsOutIdeal.τ).loc Cert.HeadsOutIdeal.main_arg2))
      ∧ θ_run (Cert.HeadsOutRefIdeal.defs (F := Ideal)) (onTc (τ := Cert.HeadsOutRefIdeal.τ) (Cert.HeadsOutRefIdeal.main (F := Ideal))) ⟨m', fun _ => 0, g'⟩ (fun r => ∀ c : Dev Cert.HeadsOutRefIdeal.nD,
          r.2.mem ((c.tc : Thread Cert.HeadsOutRefIdeal.nD Cert.HeadsOutRefIdeal.τ).loc Cert.HeadsOutRefIdeal.main_v6) = v0 c
          ∧ r.2.mem ((c.tc : Thread Cert.HeadsOutRefIdeal.nD Cert.HeadsOutRefIdeal.τ).loc Cert.HeadsOutRefIdeal.main_v9) = v1 c
          ∧ r.2.mem ((c.tc : Thread Cert.HeadsOutRefIdeal.nD Cert.HeadsOutRefIdeal.τ).loc Cert.HeadsOutRefIdeal.main_arg0) = m' ((c.tc : Thread Cert.HeadsOutRefIdeal.nD Cert.HeadsOutRefIdeal.τ).loc Cert.HeadsOutRefIdeal.main_arg0)
          ∧ r.2.mem ((c.tc : Thread Cert.HeadsOutRefIdeal.nD Cert.HeadsOutRefIdeal.τ).loc Cert.HeadsOutRefIdeal.main_arg1) = m' ((c.tc : Thread Cert.HeadsOutRefIdeal.nD Cert.HeadsOutRefIdeal.τ).loc Cert.HeadsOutRefIdeal.main_arg1)
          ∧ r.2.mem ((c.tc : Thread Cert.HeadsOutRefIdeal.nD Cert.HeadsOutRefIdeal.τ).loc Cert.HeadsOutRefIdeal.main_arg2) = m' ((c.tc : Thread Cert.HeadsOutRefIdeal.nD Cert.HeadsOutRefIdeal.τ).loc Cert.HeadsOutRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v24) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_MemAttn_MemAttnIdeal : Prop :=
  True

def algebraic_MemAttnIdeal_MemAttnRefIdeal [hMemAttnIdeal : Cert.MemAttnIdeal.Facts] [hMemAttnRefIdeal : Cert.MemAttnRefIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)) →
    ∃ (v0 : (c : Dev Cert.MemAttnIdeal.nD) → Buf (Elt Ideal) ((c.tc : Thread Cert.MemAttnIdeal.nD Cert.MemAttnIdeal.τ).loc Cert.MemAttnIdeal.main_v1)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v1) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v24) = v0 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1))

def preserves_FoxGate_FoxGateIdeal : Prop :=
  True

def algebraic_FoxGateIdeal_FoxGateRefIdeal [hFoxGateIdeal : Cert.FoxGateIdeal.Facts] [hFoxGateRefIdeal : Cert.FoxGateRefIdeal.Facts] : Prop :=
  ∀ (m : (ℓ : Loc Cert.FoxGateIdeal.nD Cert.FoxGateIdeal.τ Cert.FoxGateIdeal.sig) → Buf (Elt Ideal) ℓ) (g : Dev Cert.FoxGateIdeal.nD → PrngReg)
    (m' : (ℓ : Loc Cert.FoxGateRefIdeal.nD Cert.FoxGateRefIdeal.τ Cert.FoxGateRefIdeal.sig) → Buf (Elt Ideal) ℓ) (g' : Dev Cert.FoxGateRefIdeal.nD → PrngReg), Pre_FoxGateIdeal m →
    (∀ c : Dev Cert.FoxGateIdeal.nD,
      m' ((c.tc : Thread Cert.FoxGateRefIdeal.nD Cert.FoxGateRefIdeal.τ).loc Cert.FoxGateRefIdeal.main_arg0) = m ((c.tc : Thread Cert.FoxGateIdeal.nD Cert.FoxGateIdeal.τ).loc Cert.FoxGateIdeal.main_arg0)
      ∧ m' ((c.tc : Thread Cert.FoxGateRefIdeal.nD Cert.FoxGateRefIdeal.τ).loc Cert.FoxGateRefIdeal.main_arg1) = m ((c.tc : Thread Cert.FoxGateIdeal.nD Cert.FoxGateIdeal.τ).loc Cert.FoxGateIdeal.main_arg1)) →
    ∃ (v0 : (c : Dev Cert.FoxGateIdeal.nD) → Buf (Elt Ideal) ((c.tc : Thread Cert.FoxGateIdeal.nD Cert.FoxGateIdeal.τ).loc Cert.FoxGateIdeal.main_v2_0)) (v1 : (c : Dev Cert.FoxGateIdeal.nD) → Buf (Elt Ideal) ((c.tc : Thread Cert.FoxGateIdeal.nD Cert.FoxGateIdeal.τ).loc Cert.FoxGateIdeal.main_v2_1)),
      θ_run (Cert.FoxGateIdeal.defs (F := Ideal)) (onTc (τ := Cert.FoxGateIdeal.τ) (Cert.FoxGateIdeal.main (F := Ideal))) ⟨m, fun _ => 0, g⟩ (fun r => ∀ c : Dev Cert.FoxGateIdeal.nD,
          r.2.mem ((c.tc : Thread Cert.FoxGateIdeal.nD Cert.FoxGateIdeal.τ).loc Cert.FoxGateIdeal.main_v2_0) = v0 c
          ∧ r.2.mem ((c.tc : Thread Cert.FoxGateIdeal.nD Cert.FoxGateIdeal.τ).loc Cert.FoxGateIdeal.main_v2_1) = v1 c
          ∧ r.2.mem ((c.tc : Thread Cert.FoxGateIdeal.nD Cert.FoxGateIdeal.τ).loc Cert.FoxGateIdeal.main_arg0) = m ((c.tc : Thread Cert.FoxGateIdeal.nD Cert.FoxGateIdeal.τ).loc Cert.FoxGateIdeal.main_arg0)
          ∧ r.2.mem ((c.tc : Thread Cert.FoxGateIdeal.nD Cert.FoxGateIdeal.τ).loc Cert.FoxGateIdeal.main_arg1) = m ((c.tc : Thread Cert.FoxGateIdeal.nD Cert.FoxGateIdeal.τ).loc Cert.FoxGateIdeal.main_arg1))
      ∧ θ_run (Cert.FoxGateRefIdeal.defs (F := Ideal)) (onTc (τ := Cert.FoxGateRefIdeal.τ) (Cert.FoxGateRefIdeal.main (F := Ideal))) ⟨m', fun _ => 0, g'⟩ (fun r => ∀ c : Dev Cert.FoxGateRefIdeal.nD,
          r.2.mem ((c.tc : Thread Cert.FoxGateRefIdeal.nD Cert.FoxGateRefIdeal.τ).loc Cert.FoxGateRefIdeal.main_v4) = v0 c
          ∧ r.2.mem ((c.tc : Thread Cert.FoxGateRefIdeal.nD Cert.FoxGateRefIdeal.τ).loc Cert.FoxGateRefIdeal.main_v6) = v1 c
          ∧ r.2.mem ((c.tc : Thread Cert.FoxGateRefIdeal.nD Cert.FoxGateRefIdeal.τ).loc Cert.FoxGateRefIdeal.main_arg0) = m' ((c.tc : Thread Cert.FoxGateRefIdeal.nD Cert.FoxGateRefIdeal.τ).loc Cert.FoxGateRefIdeal.main_arg0)
          ∧ r.2.mem ((c.tc : Thread Cert.FoxGateRefIdeal.nD Cert.FoxGateRefIdeal.τ).loc Cert.FoxGateRefIdeal.main_arg1) = m' ((c.tc : Thread Cert.FoxGateRefIdeal.nD Cert.FoxGateRefIdeal.τ).loc Cert.FoxGateRefIdeal.main_arg1))

def preserves_FoxAttn_FoxAttnIdeal : Prop :=
  True

def Claim : Prop :=
  ∃ (hRepack : Cert.Repack.Facts) (hRepackIdeal : Cert.RepackIdeal.Facts) (hRepackRefIdeal : Cert.RepackRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hFf1 : Cert.Ff1.Facts) (hFf1Ideal : Cert.Ff1Ideal.Facts) (hFf1RefIdeal : Cert.Ff1RefIdeal.Facts) (hFf2 : Cert.Ff2.Facts) (hFf2Ideal : Cert.Ff2Ideal.Facts) (hFf2RefIdeal : Cert.Ff2RefIdeal.Facts) (hMemKv : Cert.MemKv.Facts) (hMemKvIdeal : Cert.MemKvIdeal.Facts) (hMemKvRefIdeal : Cert.MemKvRefIdeal.Facts) (hFinalNorm : Cert.FinalNorm.Facts) (hFinalNormIdeal : Cert.FinalNormIdeal.Facts) (hFinalNormRefIdeal : Cert.FinalNormRefIdeal.Facts) (hHeadsOut : Cert.HeadsOut.Facts) (hHeadsOutIdeal : Cert.HeadsOutIdeal.Facts) (hHeadsOutRefIdeal : Cert.HeadsOutRefIdeal.Facts) (hMerge : Cert.Merge.Facts) (hMergeIdeal : Cert.MergeIdeal.Facts) (hMergeRefIdeal : Cert.MergeRefIdeal.Facts) (hMemAttn : Cert.MemAttn.Facts) (hMemAttnIdeal : Cert.MemAttnIdeal.Facts) (hMemAttnRefIdeal : Cert.MemAttnRefIdeal.Facts) (hFoxGate : Cert.FoxGate.Facts) (hFoxGateIdeal : Cert.FoxGateIdeal.Facts) (hFoxGateRefIdeal : Cert.FoxGateRefIdeal.Facts) (hFoxAttn : Cert.FoxAttn.Facts) (hFoxAttnIdeal : Cert.FoxAttnIdeal.Facts),
    quiescent_Repack (hRepack := hRepack)
    ∧ quiescent_RepackIdeal (hRepackIdeal := hRepackIdeal)
    ∧ quiescent_RepackRefIdeal (hRepackRefIdeal := hRepackRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Ff1 (hFf1 := hFf1)
    ∧ quiescent_Ff1Ideal (hFf1Ideal := hFf1Ideal)
    ∧ quiescent_Ff1RefIdeal (hFf1RefIdeal := hFf1RefIdeal)
    ∧ quiescent_Ff2 (hFf2 := hFf2)
    ∧ quiescent_Ff2Ideal (hFf2Ideal := hFf2Ideal)
    ∧ quiescent_Ff2RefIdeal (hFf2RefIdeal := hFf2RefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_HeadsOut (hHeadsOut := hHeadsOut)
    ∧ quiescent_HeadsOutIdeal (hHeadsOutIdeal := hHeadsOutIdeal)
    ∧ quiescent_HeadsOutRefIdeal (hHeadsOutRefIdeal := hHeadsOutRefIdeal)
    ∧ quiescent_Merge (hMerge := hMerge)
    ∧ quiescent_MergeIdeal (hMergeIdeal := hMergeIdeal)
    ∧ quiescent_MergeRefIdeal (hMergeRefIdeal := hMergeRefIdeal)
    ∧ quiescent_MemAttn (hMemAttn := hMemAttn)
    ∧ quiescent_MemAttnIdeal (hMemAttnIdeal := hMemAttnIdeal)
    ∧ quiescent_MemAttnRefIdeal (hMemAttnRefIdeal := hMemAttnRefIdeal)
    ∧ quiescent_FoxGate (hFoxGate := hFoxGate)
    ∧ quiescent_FoxGateIdeal (hFoxGateIdeal := hFoxGateIdeal)
    ∧ quiescent_FoxGateRefIdeal (hFoxGateRefIdeal := hFoxGateRefIdeal)
    ∧ quiescent_FoxAttn (hFoxAttn := hFoxAttn)
    ∧ quiescent_FoxAttnIdeal (hFoxAttnIdeal := hFoxAttnIdeal)
    ∧ preserves_Repack_RepackIdeal
    ∧ algebraic_RepackIdeal_RepackRefIdeal (hRepackIdeal := hRepackIdeal) (hRepackRefIdeal := hRepackRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Ff1_Ff1Ideal
    ∧ algebraic_Ff1Ideal_Ff1RefIdeal (hFf1Ideal := hFf1Ideal) (hFf1RefIdeal := hFf1RefIdeal)
    ∧ preserves_Ff2_Ff2Ideal
    ∧ algebraic_Ff2Ideal_Ff2RefIdeal (hFf2Ideal := hFf2Ideal) (hFf2RefIdeal := hFf2RefIdeal)
    ∧ preserves_MemKv_MemKvIdeal
    ∧ algebraic_MemKvIdeal_MemKvRefIdeal (hMemKvIdeal := hMemKvIdeal) (hMemKvRefIdeal := hMemKvRefIdeal)
    ∧ preserves_FinalNorm_FinalNormIdeal
    ∧ algebraic_FinalNormIdeal_FinalNormRefIdeal (hFinalNormIdeal := hFinalNormIdeal) (hFinalNormRefIdeal := hFinalNormRefIdeal)
    ∧ preserves_HeadsOut_HeadsOutIdeal
    ∧ algebraic_HeadsOutIdeal_HeadsOutRefIdeal (hHeadsOutIdeal := hHeadsOutIdeal) (hHeadsOutRefIdeal := hHeadsOutRefIdeal)
    ∧ preserves_Merge_MergeIdeal
    ∧ algebraic_MergeIdeal_MergeRefIdeal (hMergeIdeal := hMergeIdeal) (hMergeRefIdeal := hMergeRefIdeal)
    ∧ preserves_MemAttn_MemAttnIdeal
    ∧ algebraic_MemAttnIdeal_MemAttnRefIdeal (hMemAttnIdeal := hMemAttnIdeal) (hMemAttnRefIdeal := hMemAttnRefIdeal)
    ∧ preserves_FoxGate_FoxGateIdeal
    ∧ algebraic_FoxGateIdeal_FoxGateRefIdeal (hFoxGateIdeal := hFoxGateIdeal) (hFoxGateRefIdeal := hFoxGateRefIdeal)
    ∧ preserves_FoxAttn_FoxAttnIdeal
-- ==== Repack.lean ====
abbrev S4x2048x19480 : Shape := ⟨3, ![4, 2048, 19480]⟩
abbrev S4x19480x2048 : Shape := ⟨3, ![4, 19480, 2048]⟩
abbrev S19584x2048 : Shape := ⟨2, ![19584, 2048]⟩
abbrev S1x1024x2048 : Shape := ⟨3, ![1, 1024, 2048]⟩
abbrev S1x8x2048 : Shape := ⟨3, ![1, 8, 2048]⟩
abbrev S1x16x2048 : Shape := ⟨3, ![1, 16, 2048]⟩
abbrev S1024x2048 : Shape := ⟨2, ![1024, 2048]⟩
abbrev S1000x2048 : Shape := ⟨2, ![1000, 2048]⟩
abbrev S8x2048 : Shape := ⟨2, ![8, 2048]⟩
abbrev S16x2048 : Shape := ⟨2, ![16, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x19480, .f32⟩
  | .hbm, ⟨1, _⟩ => ⟨S4x19480x2048, .f32⟩
  | .hbm, ⟨2, _⟩ => ⟨S19584x2048, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x8x2048, .f32⟩
  | .local _ .vmem, ⟨3, _⟩ => ⟨S1x16x2048, .f32⟩
  | .local _ .vmem, ⟨4, _⟩ => ⟨S1024x2048, .bf16⟩
  | .local _ .vmem, ⟨5, _⟩ => ⟨S1024x2048, .bf16⟩
  | _, _ => ⟨S4x2048x19480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def k0_mult1 (i : grid0.Coords) : BitVec 32 :=
  let arg0 : BitVec 32 := BitVec.ofNat 32 (i 0).val
  let c18_i32 : BitVec 32 := 18#32
  let v0 : BitVec 32 := Scalar.minsi arg0 c18_i32
  let c1024_i32 : BitVec 32 := 1024#32
  let v1 : BitVec 32 := Scalar.muli v0 c1024_i32
  let c3072_i32 : BitVec 32 := 3072#32
  let v2 : BitVec 1 := Scalar.cmpi .slt v1 c3072_i32
  let c0_i32 : BitVec 32 := 0#32
  let c6144_i32 : BitVec 32 := 6144#32
  let v3 : BitVec 1 := Scalar.cmpi .slt v1 c6144_i32
  let c8_i32 : BitVec 32 := 8#32
  let c24_i32 : BitVec 32 := 24#32
  let v4 : BitVec 32 := Scalar.select v3 c8_i32 c24_i32
  let v5 : BitVec 32 := Scalar.select v2 c0_i32 v4
  let v6 : BitVec 32 := Scalar.addi v1 v5
  v6
def k0_cond1 (i : grid0.Coords) : BitVec 1 :=
  let arg0 : BitVec 32 := BitVec.ofNat 32 (i 0).val
  let c19_i32 : BitVec 32 := 19#32
  let v0 : BitVec 1 := Scalar.cmpi .slt arg0 c19_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c19_i32_0 : BitVec 32 := 19#32
  let v3 : BitVec 1 := Scalar.cmpi .eq arg0 c19_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let c18_i32 : BitVec 32 := 18#32
  let v0 : BitVec 32 := Scalar.minsi arg0 c18_i32
  let c1024_i32 : BitVec 32 := 1024#32
  let v1 : BitVec 32 := Scalar.muli v0 c1024_i32
  let c3072_i32 : BitVec 32 := 3072#32
  let v2 : BitVec 1 := Scalar.cmpi .slt v1 c3072_i32
  let c6144_i32 : BitVec 32 := 6144#32
  let v3 : BitVec 1 := Scalar.cmpi .slt v1 c6144_i32
  let c8_i32 : BitVec 32 := 8#32
  let c24_i32 : BitVec 32 := 24#32
  let v4 : BitVec 32 := Scalar.select v3 c8_i32 c24_i32
  let c0_i32 : BitVec 32 := 0#32
  let v5 : BitVec 32 := Scalar.select v2 c0_i32 v4
  let v6 : BitVec 32 := Scalar.addi v1 v5
  let v7 : BitVec 32 := v6
  let c1_i32 : BitVec 32 := 1#32
  let c0_i32_0 : BitVec 32 := 0#32
  let c0_i32_1 : BitVec 32 := 0#32
  ![c1_i32.toNat, v7.toNat, c0_i32_0.toNat]

def cc0_transform_1 (i : grid0.Coords) : Fin 3 → Nat :=
  let arg0 : BitVec 32 := BitVec.ofNat 32 (i 0).val
  let c1_i32 : BitVec 32 := 1#32
  let c3072_i32 : BitVec 32 := 3072#32
  let c0_i32 : BitVec 32 := 0#32
  let c0_i32_0 : BitVec 32 := 0#32
  ![c1_i32.toNat, c3072_i32.toNat, c0_i32.toNat]

def cc0_transform_2 (i : grid0.Coords) : Fin 3 → Nat :=
  let arg0 : BitVec 32 := BitVec.ofNat 32 (i 0).val
  let c1_i32 : BitVec 32 := 1#32
  let c6152_i32 : BitVec 32 := 6152#32
  let c0_i32 : BitVec 32 := 0#32
  let c0_i32_0 : BitVec 32 := 0#32
  ![c1_i32.toNat, c6152_i32.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RepackRefIdeal.lean ====
abbrev S4x2048x19480 : Shape := ⟨3, ![4, 2048, 19480]⟩
abbrev S1x2048x19480 : Shape := ⟨3, ![1, 2048, 19480]⟩
abbrev S2048x19480 : Shape := ⟨2, ![2048, 19480]⟩
abbrev S19480x2048 : Shape := ⟨2, ![19480, 2048]⟩
abbrev S3072x2048 : Shape := ⟨2, ![3072, 2048]⟩
abbrev S8x2048 : Shape := ⟨2, ![8, 2048]⟩
abbrev S16x2048 : Shape := ⟨2, ![16, 2048]⟩
abbrev S13312x2048 : Shape := ⟨2, ![13312, 2048]⟩
abbrev S_ : Shape := ⟨0, ![]⟩
abbrev S104x2048 : Shape := ⟨2, ![104, 2048]⟩
abbrev S19584x2048 : Shape := ⟨2, ![19584, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x19480, .f32⟩
  | .hbm, ⟨1, _⟩ => ⟨S1x2048x19480, .f32⟩
  | .hbm, ⟨2, _⟩ => ⟨S2048x19480, .f32⟩
  | .hbm, ⟨3, _⟩ => ⟨S19480x2048, .f32⟩
  | .hbm, ⟨4, _⟩ => ⟨S3072x2048, .f32⟩
  | .hbm, ⟨5, _⟩ => ⟨S8x2048, .f32⟩
  | .hbm, ⟨6, _⟩ => ⟨S3072x2048, .f32⟩
  | .hbm, ⟨7, _⟩ => ⟨S16x2048, .f32⟩
  | .hbm, ⟨8, _⟩ => ⟨S13312x2048, .f32⟩
  | .hbm, ⟨9, _⟩ => ⟨S_, .f32⟩
  | .hbm, ⟨10, _⟩ => ⟨S104x2048, .f32⟩
  | .hbm, ⟨11, _⟩ => ⟨S19584x2048, .f32⟩
  | .hbm, ⟨12, _⟩ => ⟨S19584x2048, .bf16⟩
  | _, _ => ⟨S4x2048x19480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== InProj.lean ====
abbrev S8192x2048 : Shape := ⟨2, ![8192, 2048]⟩
abbrev S2048 : Shape := ⟨1, ![2048]⟩
abbrev S19584x2048 : Shape := ⟨2, ![19584, 2048]⟩
abbrev S1x2048 : Shape := ⟨2, ![1, 2048]⟩
abbrev S8192x19584 : Shape := ⟨2, ![8192, 19584]⟩
abbrev S1024x2048 : Shape := ⟨2, ![1024, 2048]⟩
abbrev S1152x2048 : Shape := ⟨2, ![1152, 2048]⟩
abbrev S1024x1152 : Shape := ⟨2, ![1024, 1152]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S19584x2048, .bf16⟩
  | .hbm, ⟨3, _⟩ => ⟨S1x2048, .f32⟩
  | .hbm, ⟨4, _⟩ => ⟨S8192x19584, .f32⟩
  | .hbm, ⟨5, _⟩ => ⟨S8192x19584, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1152x2048, .bf16⟩
  | .local _ .vmem, ⟨4, _⟩ => ⟨S1152x2048, .bf16⟩
  | .local _ .vmem, ⟨5, _⟩ => ⟨S1024x1152, .f32⟩
  | .local _ .vmem, ⟨6, _⟩ => ⟨S1024x1152, .f32⟩
  | .local _ .vmem, ⟨7, _⟩ => ⟨S1024x1152, .bf16⟩
  | .local _ .vmem, ⟨8, _⟩ => ⟨S1024x1152, .bf16⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1152x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1152 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjRefIdeal.lean ====
abbrev S8192x2048 : Shape := ⟨2, ![8192, 2048]⟩
abbrev S2048 : Shape := ⟨1, ![2048]⟩
abbrev S19584x2048 : Shape := ⟨2, ![19584, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048x19584 : Shape := ⟨2, ![2048, 19584]⟩
abbrev S8192x19584 : Shape := ⟨2, ![8192, 19584]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S19584x2048, .bf16⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S19584x2048, .f32⟩
  | .hbm, ⟨20, _⟩ => ⟨S2048x19584, .f32⟩
  | .hbm, ⟨21, _⟩ => ⟨S8192x19584, .f32⟩
  | .hbm, ⟨22, _⟩ => ⟨S8192x19584, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== OutProj.lean ====
abbrev S8192x2048 : Shape := ⟨2, ![8192, 2048]⟩
abbrev S4x2048x2048 : Shape := ⟨3, ![4, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S4x2048x2048, .f32⟩
  | .hbm, ⟨3, _⟩ => ⟨S4x2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S8192x2048 : Shape := ⟨2, ![8192, 2048]⟩
abbrev S4x2048x2048 : Shape := ⟨3, ![4, 2048, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S4x2048x2048, .f32⟩
  | .hbm, ⟨3, _⟩ => ⟨S8192x2048, .f32⟩
  | .hbm, ⟨4, _⟩ => ⟨S1x2048x2048, .f32⟩
  | .hbm, ⟨5, _⟩ => ⟨S2048x2048, .f32⟩
  | .hbm, ⟨6, _⟩ => ⟨S8192x2048, .f32⟩
  | .hbm, ⟨7, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Ff1.lean ====
abbrev S8192x2048 : Shape := ⟨2, ![8192, 2048]⟩
abbrev S4x2048 : Shape := ⟨2, ![4, 2048]⟩
abbrev S4x2048x8192 : Shape := ⟨3, ![4, 2048, 8192]⟩
abbrev S1x2048 : Shape := ⟨2, ![1, 2048]⟩
abbrev S2048 : Shape := ⟨1, ![2048]⟩
abbrev S8192x8192 : Shape := ⟨2, ![8192, 8192]⟩
abbrev S1024x2048 : Shape := ⟨2, ![1024, 2048]⟩
abbrev S1x2048x1024 : Shape := ⟨3, ![1, 2048, 1024]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x8192, .f32⟩
  | .hbm, ⟨3, _⟩ => ⟨S4x2048x8192, .bf16⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S8192x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Ff1RefIdeal.lean ====
abbrev S8192x2048 : Shape := ⟨2, ![8192, 2048]⟩
abbrev S4x2048 : Shape := ⟨2, ![4, 2048]⟩
abbrev S4x2048x8192 : Shape := ⟨3, ![4, 2048, 8192]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x8192 : Shape := ⟨3, ![1, 2048, 8192]⟩
abbrev S2048x8192 : Shape := ⟨2, ![2048, 8192]⟩
abbrev S8192x8192 : Shape := ⟨2, ![8192, 8192]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x8192, .f32⟩
  | .hbm, ⟨3, _⟩ => ⟨S1x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S1x2048x8192, .f32⟩
  | .hbm, ⟨22, _⟩ => ⟨S2048x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_cst : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Ff2.lean ====
abbrev S8192x2048 : Shape := ⟨2, ![8192, 2048]⟩
abbrev S8192x8192 : Shape := ⟨2, ![8192, 8192]⟩
abbrev S4x8192x2048 : Shape := ⟨3, ![4, 8192, 2048]⟩
abbrev S512x8192 : Shape := ⟨2, ![512, 8192]⟩
abbrev S1x8192x512 : Shape := ⟨3, ![1, 8192, 512]⟩
abbrev S512x512 : Shape := ⟨2, ![512, 512]⟩
abbrev S8192x512 : Shape := ⟨2, ![8192, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x8192, .bf16⟩
  | .hbm, ⟨2, _⟩ => ⟨S4x8192x2048, .f32⟩
  | .hbm, ⟨3, _⟩ => ⟨S4x8192x2048, .bf16⟩
  | .hbm, ⟨4, _⟩ => ⟨S8192x2048, .f32⟩
  | .local _ .vmem, ⟨0, _⟩ => ⟨S512x8192, .bf16⟩
  | .local _ .vmem, ⟨1, _⟩ => ⟨S512x8192, .bf16⟩
  | .local _ .vmem, ⟨2, _⟩ => ⟨S1x8192x512, .bf16⟩
  | .local _ .vmem, ⟨3, _⟩ => ⟨S1x8192x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Ff2RefIdeal.lean ====
abbrev S8192x2048 : Shape := ⟨2, ![8192, 2048]⟩
abbrev S8192x8192 : Shape := ⟨2, ![8192, 8192]⟩
abbrev S4x8192x2048 : Shape := ⟨3, ![4, 8192, 2048]⟩
abbrev S1x8192x2048 : Shape := ⟨3, ![1, 8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x8192, .bf16⟩
  | .hbm, ⟨2, _⟩ => ⟨S4x8192x2048, .f32⟩
  | .hbm, ⟨3, _⟩ => ⟨S8192x8192, .f32⟩
  | .hbm, ⟨4, _⟩ => ⟨S1x8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MemKv.lean ====
abbrev S2x256x2048 : Shape := ⟨3, ![2, 256, 2048]⟩
abbrev S4x2048x2048 : Shape := ⟨3, ![4, 2048, 2048]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2x256x2048, .f32⟩
  | .hbm, ⟨1, _⟩ => ⟨S4x2048x2048, .f32⟩
  | .hbm, ⟨2, _⟩ => ⟨S512x2048, .f32⟩
  | .hbm, ⟨3, _⟩ => ⟨S4x2048x2048, .bf16⟩
  | .hbm, ⟨4, _⟩ => ⟨S512x2048, .f32⟩
  | .local _ .vmem, ⟨0, _⟩ => ⟨S512x2048, .f32⟩
  | .local _ .vmem, ⟨1, _⟩ => ⟨S1x2048x1024, .bf16⟩
  | .local _ .vmem, ⟨2, _⟩ => ⟨S1x2048x1024, .bf16⟩
  | .local _ .vmem, ⟨3, _⟩ => ⟨S512x1024, .f32⟩
  | .local _ .vmem, ⟨4, _⟩ => ⟨S512x1024, .f32⟩
  | .local _ .vmem, ⟨5, _⟩ => ⟨S512x2048, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemKvRefIdeal.lean ====
abbrev S2x256x2048 : Shape := ⟨3, ![2, 256, 2048]⟩
abbrev S4x2048x2048 : Shape := ⟨3, ![4, 2048, 2048]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S4x2048x2048, .f32⟩
  | .hbm, ⟨2, _⟩ => ⟨S512x2048, .f32⟩
  | .hbm, ⟨3, _⟩ => ⟨S1x2048x2048, .f32⟩
  | .hbm, ⟨4, _⟩ => ⟨S2048x2048, .f32⟩
  | .hbm, ⟨5, _⟩ => ⟨S512x2048, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FinalNorm.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== HeadsOut.lean ====
abbrev S8192x19584 : Shape := ⟨2, ![8192, 19584]⟩
abbrev S4x8192x8x128 : Shape := ⟨4, ![4, 8192, 8, 128]⟩
abbrev S512x1024 : Shape := ⟨2, ![512, 1024]⟩
abbrev S1x512x8x128 : Shape := ⟨4, ![1, 512, 8, 128]⟩
abbrev S512x128 : Shape := ⟨2, ![512, 128]⟩
abbrev S1x512x1x128 : Shape := ⟨4, ![1, 512, 1, 128]⟩

abbrev nBuf : Space → Nat
  | .hbm => 5
  | .vmem => 8
  | .smem => 0
  | _ => 0

abbrev bufTy : (tb : Table) → Fin (tcTables nBuf tb) → BufTy
  | .hbm, ⟨0, _⟩ => ⟨S8192x19584, .f32⟩
  | .hbm, ⟨1, _⟩ => ⟨S4x8192x8x128, .f32⟩
  | .hbm, ⟨2, _⟩ => ⟨S4x8192x8x128, .f32⟩
  | .hbm, ⟨3, _⟩ => ⟨S4x8192x8x128, .f32⟩
  | .hbm, ⟨4, _⟩ => ⟨S4x8192x8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x512x8x128, .f32⟩
  | .local _ .vmem, ⟨5, _⟩ => ⟨S1x512x8x128, .f32⟩
  | .local _ .vmem, ⟨6, _⟩ => ⟨S1x512x8x128, .f32⟩
  | .local _ .vmem, ⟨7, _⟩ => ⟨S1x512x8x128, .f32⟩
  | _, _ => ⟨S8192x19584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_5 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== HeadsOutRefIdeal.lean ====
abbrev S8192x19584 : Shape := ⟨2, ![8192, 19584]⟩
abbrev S4x8192x8x128 : Shape := ⟨4, ![4, 8192, 8, 128]⟩
abbrev S8192x1024 : Shape := ⟨2, ![8192, 1024]⟩
abbrev S1x8192x8x128 : Shape := ⟨4, ![1, 8192, 8, 128]⟩
abbrev S2x8192x8x128 : Shape := ⟨4, ![2, 8192, 8, 128]⟩

abbrev nBuf : Space → Nat
  | .hbm => 13
  | .vmem => 0
  | .smem => 0
  | _ => 0

abbrev bufTy : (tb : Table) → Fin (tcTables nBuf tb) → BufTy
  | .hbm, ⟨0, _⟩ => ⟨S8192x19584, .f32⟩
  | .hbm, ⟨1, _⟩ => ⟨S4x8192x8x128, .f32⟩
  | .hbm, ⟨2, _⟩ => ⟨S4x8192x8x128, .f32⟩
  | .hbm, ⟨3, _⟩ => ⟨S8192x1024, .f32⟩
  | .hbm, ⟨4, _⟩ => ⟨S1x8192x8x128, .f32⟩
  | .hbm, ⟨5, _⟩ => ⟨S8192x1024, .f32⟩
  | .hbm, ⟨6, _⟩ => ⟨S1x8192x8x128, .f32⟩
  | .hbm, ⟨7, _⟩ => ⟨S1x8192x8x128, .f32⟩
  | .hbm, ⟨8, _⟩ => ⟨S2x8192x8x128, .f32⟩
  | .hbm, ⟨9, _⟩ => ⟨S4x8192x8x128, .f32⟩
  | .hbm, ⟨10, _⟩ => ⟨S1x8192x8x128, .f32⟩
  | .hbm, ⟨11, _⟩ => ⟨S2x8192x8x128, .f32⟩
  | .hbm, ⟨12, _⟩ => ⟨S4x8192x8x128, .f32⟩
  | _, _ => ⟨S8192x19584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Merge.lean ====
abbrev S8192x1024 : Shape := ⟨2, ![8192, 1024]⟩
abbrev S8192x19584 : Shape := ⟨2, ![8192, 19584]⟩
abbrev S4x4x1024x2048 : Shape := ⟨4, ![4, 4, 1024, 2048]⟩
abbrev S8192x2048 : Shape := ⟨2, ![8192, 2048]⟩
abbrev S1024x1024 : Shape := ⟨2, ![1024, 1024]⟩
abbrev S1024x512 : Shape := ⟨2, ![1024, 512]⟩
abbrev S1x4x1024x512 : Shape := ⟨4, ![1, 4, 1024, 512]⟩
abbrev S1x1x1024x512 : Shape := ⟨4, ![1, 1, 1024, 512]⟩

abbrev nBuf : Space → Nat
  | .hbm => 8
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x19584, .bf16⟩
  | .hbm, ⟨5, _⟩ => ⟨S4x4x1024x2048, .f32⟩
  | .hbm, ⟨6, _⟩ => ⟨S4x4x1024x2048, .bf16⟩
  | .hbm, ⟨7, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1x4x1024x512, .bf16⟩
  | .local _ .vmem, ⟨17, _⟩ => ⟨S1x4x1024x512, .bf16⟩
  | .local _ .vmem, ⟨18, _⟩ => ⟨S1024x512, .bf16⟩
  | .local _ .vmem, ⟨19, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c30_i32 : BitVec 32 := 30#32
  let v0 : BitVec 32 := Scalar.addi c30_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c34_i32 : BitVec 32 := 34#32
  let v0 : BitVec 32 := Scalar.addi c34_i32 arg1
  let c0_i32 : BitVec 32 := 0#32
  ![arg0.toNat, v0.toNat]

def cc0_transform_8 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S8192x1024 : Shape := ⟨2, ![8192, 1024]⟩
abbrev S8192x19584 : Shape := ⟨2, ![8192, 19584]⟩
abbrev S4x4x1024x2048 : Shape := ⟨4, ![4, 4, 1024, 2048]⟩
abbrev S8192x1x1024 : Shape := ⟨3, ![8192, 1, 1024]⟩
abbrev S8192x4x1024 : Shape := ⟨3, ![8192, 4, 1024]⟩
abbrev S8192x8192 : Shape := ⟨2, ![8192, 8192]⟩
abbrev S_ : Shape := ⟨0, ![]⟩
abbrev S8192x4x2048 : Shape := ⟨3, ![8192, 4, 2048]⟩
abbrev S1x4x1024x2048 : Shape := ⟨4, ![1, 4, 1024, 2048]⟩
abbrev S4x1024x2048 : Shape := ⟨3, ![4, 1024, 2048]⟩
abbrev S4x2048x8192 : Shape := ⟨3, ![4, 2048, 8192]⟩
abbrev S8192x2048 : Shape := ⟨2, ![8192, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x19584, .bf16⟩
  | .hbm, ⟨5, _⟩ => ⟨S4x4x1024x2048, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1x1024, .f32⟩
  | .hbm, ⟨11, _⟩ => ⟨S8192x1x1024, .f32⟩
  | .hbm, ⟨12, _⟩ => ⟨S8192x1x1024, .f32⟩
  | .hbm, ⟨13, _⟩ => ⟨S8192x1x1024, .f32⟩
  | .hbm, ⟨14, _⟩ => ⟨S8192x4x1024, .f32⟩
  | .hbm, ⟨15, _⟩ => ⟨S8192x8192, .bf16⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x4x2048, .f32⟩
  | .hbm, ⟨26, _⟩ => ⟨S1x4x1024x2048, .f32⟩
  | .hbm, ⟨27, _⟩ => ⟨S4x1024x2048, .f32⟩
  | .hbm, ⟨28, _⟩ => ⟨S4x2048x8192, .f32⟩
  | .hbm, ⟨29, _⟩ => ⟨S8192x4x2048, .f32⟩
  | .hbm, ⟨30, _⟩ => ⟨S8192x4x2048, .f32⟩
  | .hbm, ⟨31, _⟩ => ⟨S_, .f32⟩
  | .hbm, ⟨32, _⟩ => ⟨S8192x2048, .f32⟩
  | .hbm, ⟨33, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== MemAttn.lean ====
abbrev S2x4096x19584 : Shape := ⟨3, ![2, 4096, 19584]⟩
abbrev S512x2048 : Shape := ⟨2, ![512, 2048]⟩
abbrev S1x2x256x2048 : Shape := ⟨4, ![1, 2, 256, 2048]⟩
abbrev S2x4096x1024 : Shape := ⟨3, ![2, 4096, 1024]⟩
abbrev S1x512x1024 : Shape := ⟨3, ![1, 512, 1024]⟩
abbrev S1x1x256x1024 : Shape := ⟨4, ![1, 1, 256, 1024]⟩
abbrev S1x512x256 : Shape := ⟨3, ![1, 512, 256]⟩
abbrev S512x256 : Shape := ⟨2, ![512, 256]⟩
abbrev S1x1x256x256 : Shape := ⟨4, ![1, 1, 256, 256]⟩
abbrev S256x256 : Shape := ⟨2, ![256, 256]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S2x4096x19584, .f32⟩
  | .hbm, ⟨1, _⟩ => ⟨S512x2048, .f32⟩
  | .hbm, ⟨2, _⟩ => ⟨S1x2x256x2048, .f32⟩
  | .hbm, ⟨3, _⟩ => ⟨S2x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x256x1024, .f32⟩
  | .local _ .vmem, ⟨3, _⟩ => ⟨S1x1x256x1024, .f32⟩
  | .local _ .vmem, ⟨4, _⟩ => ⟨S1x1x256x1024, .f32⟩
  | .local _ .vmem, ⟨5, _⟩ => ⟨S1x1x256x1024, .f32⟩
  | .local _ .vmem, ⟨6, _⟩ => ⟨S1x512x1024, .bf16⟩
  | .local _ .vmem, ⟨7, _⟩ => ⟨S1x512x1024, .bf16⟩
  | _, _ => ⟨S2x4096x19584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![c0_i32.toNat, arg0.toNat, c0_i32_0.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemAttnRefIdeal.lean ====
abbrev S2x4096x19584 : Shape := ⟨3, ![2, 4096, 19584]⟩
abbrev S512x2048 : Shape := ⟨2, ![512, 2048]⟩
abbrev S2x4096x1024 : Shape := ⟨3, ![2, 4096, 1024]⟩
abbrev S2x4096x4x256 : Shape := ⟨4, ![2, 4096, 4, 256]⟩
abbrev S_ : Shape := ⟨0, ![]⟩
abbrev S2x256x2048 : Shape := ⟨3, ![2, 256, 2048]⟩
abbrev S2x256x1024 : Shape := ⟨3, ![2, 256, 1024]⟩
abbrev S2x256x4x256 : Shape := ⟨4, ![2, 256, 4, 256]⟩
abbrev S2x4x4096x256 : Shape := ⟨4, ![2, 4, 4096, 256]⟩
abbrev S2x4x4096 : Shape := ⟨3, ![2, 4, 4096]⟩
abbrev S2x4x4096x1 : Shape := ⟨4, ![2, 4, 4096, 1]⟩
abbrev S2x4x256x4096 : Shape := ⟨4, ![2, 4, 256, 4096]⟩

abbrev nBuf : Space → Nat
  | .hbm => 31
  | .vmem => 0
  | .smem => 0
  | _ => 0

abbrev bufTy : (tb : Table) → Fin (tcTables nBuf tb) → BufTy
  | .hbm, ⟨0, _⟩ => ⟨S2x4096x19584, .f32⟩
  | .hbm, ⟨1, _⟩ => ⟨S512x2048, .f32⟩
  | .hbm, ⟨2, _⟩ => ⟨S2x4096x1024, .f32⟩
  | .hbm, ⟨3, _⟩ => ⟨S2x4096x4x256, .f32⟩
  | .hbm, ⟨4, _⟩ => ⟨S_, .f32⟩
  | .hbm, ⟨5, _⟩ => ⟨S2x4096x4x256, .f32⟩
  | .hbm, ⟨6, _⟩ => ⟨S2x4096x4x256, .f32⟩
  | .hbm, ⟨7, _⟩ => ⟨S2x256x2048, .f32⟩
  | .hbm, ⟨8, _⟩ => ⟨S2x256x1024, .f32⟩
  | .hbm, ⟨9, _⟩ => ⟨S2x256x1024, .f32⟩
  | .hbm, ⟨10, _⟩ => ⟨S2x256x4x256, .f32⟩
  | .hbm, ⟨11, _⟩ => ⟨S2x4x4096x256, .f32⟩
  | .hbm, ⟨12, _⟩ => ⟨S_, .f32⟩
  | .hbm, ⟨13, _⟩ => ⟨S2x4x4096, .f32⟩
  | .hbm, ⟨14, _⟩ => ⟨S_, .f32⟩
  | .hbm, ⟨15, _⟩ => ⟨S2x4x4096, .f32⟩
  | .hbm, ⟨16, _⟩ => ⟨S2x4x4096, .f32⟩
  | .hbm, ⟨17, _⟩ => ⟨S2x4x4096x1, .f32⟩
  | .hbm, ⟨18, _⟩ => ⟨S2x4x4096x256, .f32⟩
  | .hbm, ⟨19, _⟩ => ⟨S2x4x4096x256, .f32⟩
  | .hbm, ⟨20, _⟩ => ⟨S2x4x4096x256, .f32⟩
  | .hbm, ⟨21, _⟩ => ⟨S_, .f32⟩
  | .hbm, ⟨22, _⟩ => ⟨S2x4x4096, .f32⟩
  | .hbm, ⟨23, _⟩ => ⟨S2x4x4096x1, .f32⟩
  | .hbm, ⟨24, _⟩ => ⟨S2x4x4096x256, .f32⟩
  | .hbm, ⟨25, _⟩ => ⟨S2x4x4096x256, .f32⟩
  | .hbm, ⟨26, _⟩ => ⟨S2x256x4x256, .f32⟩
  | .hbm, ⟨27, _⟩ => ⟨S2x4x256x4096, .f32⟩
  | .hbm, ⟨28, _⟩ => ⟨S2x4096x4x256, .f32⟩
  | .hbm, ⟨29, _⟩ => ⟨S2x4096x1024, .f32⟩
  | .hbm, ⟨30, _⟩ => ⟨S2x4096x1024, .bf16⟩
  | _, _ => ⟨S2x4096x19584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== FoxGate.lean ====
abbrev S2x4096x8 : Shape := ⟨3, ![2, 4096, 8]⟩
abbrev S8 : Shape := ⟨1, ![8]⟩
abbrev S2x8x4096 : Shape := ⟨3, ![2, 8, 4096]⟩
abbrev S8x1 : Shape := ⟨2, ![8, 1]⟩
abbrev S1x8x4096 : Shape := ⟨3, ![1, 8, 4096]⟩
abbrev S8x4096 : Shape := ⟨2, ![8, 4096]⟩

abbrev nBuf : Space → Nat
  | .hbm => 6
  | .vmem => 7
  | .smem => 0
  | _ => 0

abbrev bufTy : (tb : Table) → Fin (tcTables nBuf tb) → BufTy
  | .hbm, ⟨0, _⟩ => ⟨S2x4096x8, .f32⟩
  | .hbm, ⟨1, _⟩ => ⟨S8, .f32⟩
  | .hbm, ⟨2, _⟩ => ⟨S2x8x4096, .f32⟩
  | .hbm, ⟨3, _⟩ => ⟨S8x1, .f32⟩
  | .hbm, ⟨4, _⟩ => ⟨S2x8x4096, .f32⟩
  | .hbm, ⟨5, _⟩ => ⟨S2x8x4096, .f32⟩
  | .local _ .vmem, ⟨0, _⟩ => ⟨S1x8x4096, .f32⟩
  | .local _ .vmem, ⟨1, _⟩ => ⟨S1x8x4096, .f32⟩
  | .local _ .vmem, ⟨2, _⟩ => ⟨S8x1, .f32⟩
  | .local _ .vmem, ⟨3, _⟩ => ⟨S1x8x4096, .f32⟩
  | .local _ .vmem, ⟨4, _⟩ => ⟨S1x8x4096, .f32⟩
  | .local _ .vmem, ⟨5, _⟩ => ⟨S1x8x4096, .f32⟩
  | .local _ .vmem, ⟨6, _⟩ => ⟨S1x8x4096, .f32⟩
  | _, _ => ⟨S2x4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FoxGateRefIdeal.lean ====
abbrev S2x4096x8 : Shape := ⟨3, ![2, 4096, 8]⟩
abbrev S8 : Shape := ⟨1, ![8]⟩
abbrev S1x1x8 : Shape := ⟨3, ![1, 1, 8]⟩
abbrev S_ : Shape := ⟨0, ![]⟩
abbrev S2x8x4096 : Shape := ⟨3, ![2, 8, 4096]⟩

abbrev nBuf : Space → Nat
  | .hbm => 26
  | .vmem => 0
  | .smem => 0
  | _ => 0

abbrev bufTy : (tb : Table) → Fin (tcTables nBuf tb) → BufTy
  | .hbm, ⟨0, _⟩ => ⟨S2x4096x8, .f32⟩
  | .hbm, ⟨1, _⟩ => ⟨S8, .f32⟩
  | .hbm, ⟨2, _⟩ => ⟨S1x1x8, .f32⟩
  | .hbm, ⟨3, _⟩ => ⟨S2x4096x8, .f32⟩
  | .hbm, ⟨4, _⟩ => ⟨S2x4096x8, .f32⟩
  | .hbm, ⟨5, _⟩ => ⟨S2x4096x8, .f32⟩
  | .hbm, ⟨6, _⟩ => ⟨S_, .f32⟩
  | .hbm, ⟨7, _⟩ => ⟨S2x4096x8, .f32⟩
  | .hbm, ⟨8, _⟩ => ⟨S2x4096x8, .f32⟩
  | .hbm, ⟨9, _⟩ => ⟨S2x4096x8, .f32⟩
  | .hbm, ⟨10, _⟩ => ⟨S2x4096x8, .f32⟩
  | .hbm, ⟨11, _⟩ => ⟨S2x4096x8, .i1⟩
  | .hbm, ⟨12, _⟩ => ⟨S2x4096x8, .f32⟩
  | .hbm, ⟨13, _⟩ => ⟨S2x4096x8, .f32⟩
  | .hbm, ⟨14, _⟩ => ⟨S2x4096x8, .f32⟩
  | .hbm, ⟨15, _⟩ => ⟨S2x4096x8, .f32⟩
  | .hbm, ⟨16, _⟩ => ⟨S2x4096x8, .f32⟩
  | .hbm, ⟨17, _⟩ => ⟨S2x4096x8, .f32⟩
  | .hbm, ⟨18, _⟩ => ⟨S2x4096x8, .f32⟩
  | .hbm, ⟨19, _⟩ => ⟨S2x4096x8, .f32⟩
  | .hbm, ⟨20, _⟩ => ⟨S2x4096x8, .f32⟩
  | .hbm, ⟨21, _⟩ => ⟨S2x8x4096, .f32⟩
  | .hbm, ⟨22, _⟩ => ⟨S_, .f32⟩
  | .hbm, ⟨23, _⟩ => ⟨S_, .f32⟩
  | .hbm, ⟨24, _⟩ => ⟨S2x4096x8, .f32⟩
  | .hbm, ⟨25, _⟩ => ⟨S2x8x4096, .f32⟩
  | _, _ => ⟨S2x4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1 : Ref sig .tc := ⟨.hbm, 19, rfl⟩
abbrev main_v3 : Ref sig .tc := ⟨.hbm, 20, rfl⟩
abbrev main_v4 : Ref sig .tc := ⟨.hbm, 21, rfl⟩
abbrev main_call1_cst : Ref sig .tc := ⟨.hbm, 22, rfl⟩
abbrev main_call1_v0 : Ref sig .tc := ⟨.hbm, 23, rfl⟩
abbrev main_v5 : Ref sig .tc := ⟨.hbm, 24, rfl⟩
abbrev main_v6 : Ref sig .tc := ⟨.hbm, 25, rfl⟩

abbrev nD : Nat := 1
abbrev τ : Topo := Topo.v7x

variable {F : FTy → Type} [FloatOps F]
-- ==== FoxAttn.lean ====
abbrev S2x4096x19584 : Shape := ⟨3, ![2, 4096, 19584]⟩
abbrev S2x8x4096 : Shape := ⟨3, ![2, 8, 4096]⟩
abbrev S2x4096x1024 : Shape := ⟨3, ![2, 4096, 1024]⟩
abbrev S1x512x1024 : Shape := ⟨3, ![1, 512, 1024]⟩
abbrev S1x8x512 : Shape := ⟨3, ![1, 8, 512]⟩
abbrev S512x1024 : Shape := ⟨2, ![512, 1024]⟩
abbrev S8x512x128 : Shape := ⟨3, ![8, 512, 128]⟩
abbrev S8x512 : Shape := ⟨2, ![8, 512]⟩
abbrev S512x128 : Shape := ⟨2, ![512, 128]⟩
abbrev S1x512x128 : Shape := ⟨3, ![1, 512, 128]⟩
abbrev S512x512 : Shape := ⟨2, ![512, 512]⟩
abbrev S1x512 : Shape := ⟨2, ![1, 512]⟩
abbrev S512 : Shape := ⟨1, ![512]⟩
abbrev S512x1 : Shape := ⟨2, ![512, 1]⟩
abbrev S512x256 : Shape := ⟨2, ![512, 256]⟩

abbrev nBuf : Space → Nat
  | .hbm => 4
  | .vmem => 14
  | .smem => 0
  | _ => 0

abbrev bufTy : (tb : Table) → Fin (tcTables nBuf tb) → BufTy
  | .hbm, ⟨0, _⟩ => ⟨S2x4096x19584, .f32⟩
  | .hbm, ⟨1, _⟩ => ⟨S2x4096x19584, .bf16⟩
  | .hbm, ⟨2, _⟩ => ⟨S2x8x4096, .f32⟩
  | .hbm, ⟨3, _⟩ => ⟨S2x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x8x512, .f32⟩
  | .local _ .vmem, ⟨7, _⟩ => ⟨S1x8x512, .f32⟩
  | .local _ .vmem, ⟨8, _⟩ => ⟨S1x512x1024, .bf16⟩
  | .local _ .vmem, ⟨9, _⟩ => ⟨S1x512x1024, .bf16⟩
  | .local _ .vmem, ⟨10, _⟩ => ⟨S512x1024, .bf16⟩
  | .local _ .vmem, ⟨11, _⟩ => ⟨S8x512x128, .f32⟩
  | .local _ .vmem, ⟨12, _⟩ => ⟨S8x512x128, .f32⟩
  | .local _ .vmem, ⟨13, _⟩ => ⟨S512x1024, .f32⟩
  | _, _ => ⟨S2x4096x19584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 8], ![false, false, false]⟩

def k0_cond4 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c1_i32 : BitVec 32 := 1#32
  let c0_i32 : BitVec 32 := 0#32
  ![arg0.toNat, v0.toNat, c1_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c2_i32 : BitVec 32 := 2#32
  let c0_i32 : BitVec 32 := 0#32
  ![arg0.toNat, v0.toNat, c2_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Proof.RepackValue.lean ====
module

public import proofs.«01_k».proof.Proof.Gen.RepackIdeal.Value
public import proofs.«01_k».proof.Proof.Gen.RepackRefIdeal.Run
public import proofs.«01_k».proof.Proof.Gen.RepackRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.RepackIdeal.Tiles

open Cert.RepackIdeal Cert.RepackIdeal.Gen Idealize.ShloMosaic Idealize.ShloMosaic.TcCoe Idealize.SL.Sem
open Idealize.ShloMosaic.Pipeline (Dat)

variable (m : (ℓ : Loc nD τ sig) → Buf (Elt Ideal) ℓ)

/-- The packed weights, written as the reference writes them. -/
abbrev REF (X : FVec Ideal S4x2048x19480 .f32) : FVec Ideal S19584x2048 .bf16 := RepackRefIdeal.Read.val_main_v10 (F := Ideal) X

theorem idx : ∀ t : Fin cfg0.N,
    (t.val < 19 → win0_0.index t = ![1, t.val * 1024 + (if t.val < 3 then 0 else if t.val < 6 then 8 else 24), 0])
    ∧ win0_1.index t = ![1, 3072, 0] ∧ win0_2.index t = ![1, 6152, 0] ∧ win0_3.index t = ![t.val, 0] :=
  (by decide +kernel : ∀ t : Fin grid0.N, _)

theorem entry (c : Dev nD) : V m c main_v0 = transpose S4x19480x2048 [0, 2, 1] (m ((c : Thread nD τ).loc main_arg0)) transposes_S4x2048x19480_S4x19480x2048_0_2_1 := by
  dsimp only [V, hostOps0]; after_results <;> rfl

/-- A staged weight block read at an array index of the argument. -/
theorem read0 (c : Dev nD) (t : Fin cfg0.N) (ht : t.val < 19) (x : S1x1024x2048.Idx) (j : S4x2048x19480.Idx) (h0 : (j 0).val = 1)
    (h1 : (j 1).val = (x 2).val) (off : ℕ) (h2 : (j 2).val = t.val * 1024 + off + (x 1).val)
    (ho : (if t.val < 3 then 0 else if t.val < 6 then 8 else 24) = off) :
    iblk m c 0 t x = m ((c : Thread nD τ).loc main_arg0) j := by
  subst ho
  have e := (idx t).1 ht
  have hx : (x 0).val < 1 := (x 0).isLt
  show V m c main_v0 (((cfg0.win 0).blk t).view.emb x) = _
  obtain ⟨k, hk⟩ : ∃ k, k = ((cfg0.win 0).blk t).view.emb x := ⟨_, rfl⟩
  rw [← hk, entry]
  have k0 : (k 0).val = 1 := by
    have q : (((cfg0.win 0).blk t).view.emb x 0).val = win0_0.index t 0 + 1 * (x 0).val := rfl
    rw [hk, q, e]; simp <;> omega
  have k1 : (k 1).val = t.val * 1024 + (if t.val < 3 then 0 else if t.val < 6 then 8 else 24) + (x 1).val := by
    have q : (((cfg0.win 0).blk t).view.emb x 1).val = win0_0.index t 1 + 1 * (x 1).val := rfl
    rw [hk, q, e]; simp <;> omega
  have k2 : (k 2).val = (x 2).val := by
    have q : (((cfg0.win 0).blk t).view.emb x 2).val = win0_0.index t 2 + 1 * (x 2).val := rfl
    rw [hk, q, e]; simp <;> omega
  pointwise
  blk_ext

theorem read1 (c : Dev nD) (t : Fin cfg0.N) (x : S1x8x2048.Idx) (j : S4x2048x19480.Idx) (h0 : (j 0).val = 1)
    (h1 : (j 1).val = (x 2).val) (h2 : (j 2).val = 3072 + (x 1).val) :
    iblk m c 1 t x = m ((c : Thread nD τ).loc main_arg0) j := by
  have e := (idx t).2.1
  have hx : (x 0).val < 1 := (x 0).isLt
  show V m c main_v0 (((cfg0.win 1).blk t).view.emb x) = _
  obtain ⟨k, hk⟩ : ∃ k, k = ((cfg0.win 1).blk t).view.emb x := ⟨_, rfl⟩
  rw [← hk, entry]
  have k0 : (k 0).val = 1 := by
    have q : (((cfg0.win 1).blk t).view.emb x 0).val = win0_1.index t 0 + 1 * (x 0).val := rfl
    rw [hk, q, e]; simp <;> omega
  have k1 : (k 1).val = 3072 + (x 1).val := by
    have q : (((cfg0.win 1).blk t).view.emb x 1).val = win0_1.index t 1 + 1 * (x 1).val := rfl
    rw [hk, q, e]; simp <;> omega
  have k2 : (k 2).val = (x 2).val := by
    have q : (((cfg0.win 1).blk t).view.emb x 2).val = win0_1.index t 2 + 1 * (x 2).val := rfl
    rw [hk, q, e]; simp <;> omega
  pointwise
  blk_ext

theorem read2 (c : Dev nD) (t : Fin cfg0.N) (x : S1x16x2048.Idx) (j : S4x2048x19480.Idx) (h0 : (j 0).val = 1)
    (h1 : (j 1).val = (x 2).val) (h2 : (j 2).val = 6152 + (x 1).val) :
    iblk m c 2 t x = m ((c : Thread nD τ).loc main_arg0) j := by
  have e := (idx t).2.2.1
  have hx : (x 0).val < 1 := (x 0).isLt
  show V m c main_v0 (((cfg0.win 2).blk t).view.emb x) = _
  obtain ⟨k, hk⟩ : ∃ k, k = ((cfg0.win 2).blk t).view.emb x := ⟨_, rfl⟩
  rw [← hk, entry]
  have k0 : (k 0).val = 1 := by
    have q : (((cfg0.win 2).blk t).view.emb x 0).val = win0_2.index t 0 + 1 * (x 0).val := rfl
    rw [hk, q, e]; simp <;> omega
  have k1 : (k 1).val = 6152 + (x 1).val := by
    have q : (((cfg0.win 2).blk t).view.emb x 1).val = win0_2.index t 1 + 1 * (x 1).val := rfl
    rw [hk, q, e]; simp <;> omega
  have k2 : (k 2).val = (x 2).val := by
    have q : (((cfg0.win 2).blk t).view.emb x 2).val = win0_2.index t 2 + 1 * (x 2).val := rfl
    rw [hk, q, e]; simp <;> omega
  pointwise
  blk_ext

open RepackRefIdeal.Read in
set_option maxHeartbeats 1600000 in
theorem final (c : Dev nD) : (dats m 0 c).arrAt 3 (cfgs 0).N = REF (m ((c : Thread nD τ).loc main_arg0)) := by
  refine (dats m 0 c).arrAt_eq_of_covers 3 _ (by decide +kernel) fun t _ y => ?_
  have ht : t.val < 20 := lt_of_lt_of_eq t.isLt N_0
  have e3 := (idx t).2.2.2
  obtain ⟨i, hi⟩ : ∃ i, i = ((cfg0.win 3).blk t).view.emb y := ⟨_, rfl⟩
  have i0 : (i 0).val = t.val * 1024 + (y 0).val := by
    have q : (((cfg0.win 3).blk t).view.emb y 0).val = win0_3.index t 0 * S1024x2048.size 0 + 1 * (y 0).val := rfl
    rw [hi, q, e3]; simp
  have i1 : (i 1).val = (y 1).val := by
    have q : (((cfg0.win 3).blk t).view.emb y 1).val = win0_3.index t 1 * S1024x2048.size 1 + 1 * (y 1).val := rfl
    rw [hi, q, e3]; simp
  rw [← hi]
  have hy : (y 0).val < 1024 := ((cfg0.win 3).xinj (cfg0.grid.coords t) y 0).isLt
  by_cases h : t.val < 19
  · blk_simp
    rw [after0_3, outsAt0_A m c t h (by omega)]; frame_out
    pointwise [k0_pay1, REF, val_main_v10, val_main_v9, val_main_v8, val_main_v7, val_main_v6, val_main_v5, val_main_v4, val_main_v3, val_main_v2, val_main_v1, val_main_v0, val_main_cst]
    by_cases q1 : (i 0).val < 3072
    · rw [dif_pos q1]
      exact read0 m c t h _ _ rfl i1 0 (by show (i 0).val = t.val * 1024 + 0 + (y 0).val; omega) (by rw [if_pos (by omega)])
    rw [dif_neg q1]
    by_cases q2 : (i 0).val - 3072 < 3072
    · rw [dif_pos q2]
      exact read0 m c t h _ _ rfl i1 8 (by show 3080 + ((i 0).val - 3072) = t.val * 1024 + 8 + (y 0).val; omega) (by rw [if_neg (by omega), if_pos (by omega)])
    rw [dif_neg q2, dif_pos (by omega)]
    exact read0 m c t h _ _ rfl i1 24 (by show 6168 + ((i 0).val - 3072 - 3072) = t.val * 1024 + 24 + (y 0).val; omega) (by rw [if_neg (by omega), if_neg (by omega)])
  · blk_simp
    rw [after0_3, outsAt0_B m c t h (by omega)]; frame_out
    pointwise [k0_pay2, REF, val_main_v10, val_main_v9, val_main_v8, val_main_v7, val_main_v6, val_main_v5, val_main_v4, val_main_v3, val_main_v2, val_main_v1, val_main_v0, val_main_cst]
    rw [dif_neg (by omega : ¬ (i 0).val < 3072), dif_neg (by omega : ¬ (i 0).val - 3072 < 3072), dif_neg (by omega : ¬ (i 0).val - 3072 - 3072 < 13312)]
    by_cases q1 : (y 0).val < 8
    · rw [dif_pos q1, dif_pos (by omega)]
      exact read1 m c t _ _ rfl i1 (by show 3072 + ((i 0).val - 3072 - 3072 - 13312) = 3072 + (y 0).val; omega)
    rw [dif_neg q1, dif_neg (by omega : ¬ (i 0).val - 3072 - 3072 - 13312 < 8)]
    by_cases q2 : (y 0).val - 8 < 16
    · rw [dif_pos q2, dif_pos (by omega)]
      exact read2 m c t _ _ rfl i1 (by show 6152 + ((i 0).val - 3072 - 3072 - 13312 - 8) = 6152 + ((y 0).val - 8); omega)
    rw [dif_neg q2, dif_neg (by omega)]

end Cert.RepackIdeal.Tiles
-- ==== Proof.RepackClaim.lean ====
module

public import proofs.«01_k».proof.Defs
public import proofs.«01_k».proof.Proof.Gen.Repack
public import proofs.«01_k».proof.Proof.Gen.RepackIdeal
public import proofs.«01_k».proof.Proof.Gen.RepackIdeal.Frame
public import proofs.«01_k».proof.Proof.Gen.RepackRefIdeal.Run
public import proofs.«01_k».proof.Proof.RepackValue
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem refFrameRepack : quiescent_RepackRefIdeal (hRepackRefIdeal := Cert.RepackRefIdeal.Gen.facts) := fun m ρ _ =>
  (θ_run Cert.RepackRefIdeal.defs _ _).mono (fun r h => ⟨fun c => (h c).2, sem_eq_zero_of_no_sems (by decide) r.2⟩)
    (Cert.RepackRefIdeal.Value.run (F := Ideal) m ρ)

set_option maxHeartbeats 1600000 in
theorem valueRepack : algebraic_RepackIdeal_RepackRefIdeal (hRepackIdeal := Cert.RepackIdeal.Gen.facts) (hRepackRefIdeal := Cert.RepackRefIdeal.Gen.facts) := by
  pair_intro
  · run_from Cert.RepackIdeal.Gen.run_main m g
  · run_from Cert.RepackRefIdeal.Value.run m' g'
    · exact (Cert.RepackRefIdeal.Read.val_main_v10_eq _).trans ((congrArg (Cert.RepackRefIdeal.Read.val_main_v10 (F := Ideal)) (hagree c)).trans (Cert.RepackIdeal.Tiles.final m c).symm)

end Cert.Proof

end
-- ==== Proof.InProjValue.lean ====
module

public import proofs.«01_k».proof.Proof.Gen.InProjIdeal.Value
public import proofs.«01_k».proof.Proof.Gen.InProjRefIdeal.Run
public import proofs.«01_k».proof.Proof.Gen.InProjRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.InProjIdeal.Tiles

open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ)

/-- The projection, written as the reference writes it. -/
abbrev REF (X : FVec Ideal S8192x2048 .f32) (g : FVec Ideal S2048 .f32) (Wt : FVec Ideal S19584x2048 .bf16) :
    FVec Ideal S8192x19584 .f32 := InProjRefIdeal.Read.val_main_v15 (F := Ideal) X g Wt

theorem idx : ∀ t : Fin cfg0.N,
    win0_0.index t = ![t.val / 17, 0] ∧ win0_1.index t = ![0, 0] ∧ win0_2.index t = ![t.val % 17, 0]
    ∧ win0_3.index t = ![t.val / 17, t.val % 17] ∧ win0_4.index t = ![t.val / 17, t.val % 17] :=
  (by decide +kernel : ∀ t : Fin grid0.N, _)

theorem entry (c : Dev nD) : V m c main_v0 = shapeCast _ (m ((c : Thread nD τ).loc main_arg1)) shapeCasts_S2048_S1x2048 := by
  dsimp only [V, hostOps0]; after_results <;> rfl

/-- The first point of the row block that point `n` works on. -/
abbrev rowPt (n : ℕ) (hn : n < cfg0.N) : Fin cfg0.N := ⟨17 * (n / 17), by omega⟩

/-- The scratch holds the normalised rows of the point's row block. -/
theorem rows (c : Dev nD) : ∀ (n : ℕ) (hn : n < cfg0.N),
    (outsAt0 m c n hn).2.2 = k0_pay1 (iblk m c 0 (rowPt n hn)) (iblk m c 1 (rowPt n hn)) := by
  intro n
  induction n with
  | zero => intro hn; rw [outsAt0_A m c ⟨0, hn⟩ rfl]; frame_out
  | succ n ih =>
    intro hn
    by_cases h : (n + 1) % 17 = 0
    · rw [outsAt0_A m c ⟨n + 1, hn⟩ h]; frame_out
      have e : rowPt (n + 1) hn = ⟨n + 1, hn⟩ := Fin.ext (by show 17 * ((n + 1) / 17) = n + 1; omega)
      rw [e]
    · rw [outsAt0_B m c ⟨n + 1, hn⟩ h]; frame_out
      have e : rowPt (n + 1) hn = rowPt n (by omega) := Fin.ext (by show 17 * ((n + 1) / 17) = 17 * (n / 17); omega)
      rw [e, ← ih (by omega)]
      rfl

/-- Between two row blocks the scratch is carried over. -/
theorem carry (c : Dev nD) (t : Fin cfg0.N) (h : ¬ t.val % 17 = 0) :
    (outsAt0 m c t.val t.isLt).2.2 = (outsAt0 m c (t.val - 1) (by omega)).2.2 := by
  rw [outsAt0_B m c t h]; frame_out; rfl

theorem outA (c : Dev nD) (t : Fin cfg0.N) :
    (outsAt0 m c t.val t.isLt).1 = k0_pay2 ((outsAt0 m c t.val t.isLt).2.2) (iblk m c 2 t) := by
  by_cases h : t.val % 17 = 0
  · rw [outsAt0_A m c t h]; frame_out
  · rw [carry m c t h, outsAt0_B m c t h]; frame_out
    rw [read_unread_whole]

theorem outB (c : Dev nD) (t : Fin cfg0.N) :
    (outsAt0 m c t.val t.isLt).2.1 = k0_pay3 ((outsAt0 m c t.val t.isLt).2.2) (iblk m c 2 t) := by
  by_cases h : t.val % 17 = 0
  · rw [outsAt0_A m c t h]; frame_out
  · rw [carry m c t h, outsAt0_B m c t h]; frame_out
    rw [read_unread_whole]

open InProjRefIdeal.Read in
theorem point (c : Dev nD) (t : Fin cfg0.N) (y) (i : S8192x19584.Idx)
    (h0 : (i 0).val = t.val / 17 * 1024 + (y 0).val) (h1 : (i 1).val = t.val % 17 * 1152 + (y 1).val) :
    k0_pay2 (k0_pay1 (iblk m c 0 (rowPt t.val t.isLt)) (iblk m c 1 (rowPt t.val t.isLt))) (iblk m c 2 t) y
      = REF (m ((c : Thread nD τ).loc main_arg0)) (m ((c : Thread nD τ).loc main_arg1)) (m ((c : Thread nD τ).loc main_arg2)) i := by
  pointwise [k0_pay1, k0_pay2, REF, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  have e := idx t
  have e' := idx (rowPt t.val t.isLt)
  rw [show (rowPt t.val t.isLt).val = 17 * (t.val / 17) from rfl, Nat.mul_div_cancel_left _ (by decide)] at e'
  blk_point [iblk, V, e, e']

theorem final3 (c : Dev nD) : (dats m 0 c).arrAt 3 (cfgs 0).N =
    InProjRefIdeal.Read.val_main_v15 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  have e := idx t
  blk_simp
  rw [after0_3, outA, rows]
  exact point m c t _ _ (by blk_simp [e]) (by blk_simp [e])

theorem final4 (c : Dev nD) : (dats m 0 c).arrAt 4 (cfgs 0).N =
    InProjRefIdeal.Read.val_main_v16 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  have e := idx t
  blk_simp
  rw [after0_4, outB, rows]
  exact point m c t _ _ (by blk_simp [e]) (by blk_simp [e])

end Cert.InProjIdeal.Tiles
-- ==== Proof.InProjClaim.lean ====
module

public import proofs.«01_k».proof.Defs
public import proofs.«01_k».proof.Proof.Gen.InProj
public import proofs.«01_k».proof.Proof.Gen.InProjIdeal
public import proofs.«01_k».proof.Proof.Gen.InProjIdeal.Frame
public import proofs.«01_k».proof.Proof.Gen.InProjRefIdeal.Run
public import proofs.«01_k».proof.Proof.InProjValue
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem refFrameInProj : quiescent_InProjRefIdeal (hInProjRefIdeal := Cert.InProjRefIdeal.Gen.facts) := fun m ρ _ =>
  (θ_run Cert.InProjRefIdeal.defs _ _).mono (fun r h => ⟨fun c => (h c).2.2, sem_eq_zero_of_no_sems (by decide) r.2⟩)
    (Cert.InProjRefIdeal.Value.run (F := Ideal) m ρ)

set_option maxHeartbeats 1600000 in
theorem valueInProj : algebraic_InProjIdeal_InProjRefIdeal (hInProjIdeal := Cert.InProjIdeal.Gen.facts) (hInProjRefIdeal := Cert.InProjRefIdeal.Gen.facts) := by
  pair_intro
  · run_from Cert.InProjIdeal.Gen.run_main m g
  · hlo_run
    · exact (Cert.InProjIdeal.Tiles.final3 m c).symm
    · exact (Cert.InProjIdeal.Tiles.final4 m c).symm

end Cert.Proof

end
-- ==== Proof.OutProjValue.lean ====
module

public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.OutProjIdeal.Tiles

open Cert.OutProjIdeal Cert.OutProjIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 2, 0] ∧ win0_1.index t = ![1, 0, t.val % 2]
    ∧ win0_2.index t = ![t.val / 2, t.val % 2] ∧ win0_3.index t = ![t.val / 2, t.val % 2] :=
  (by decide +kernel : ∀ t : Fin grid0.N, _)

open OutProjRefIdeal.Read in
theorem final (c : Dev nD) : (dats m 0 c).arrAt 3 (cfgs 0).N =
    val_main_v4 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  have e := idx t
  blk_simp
  rw [after0_3]; frame_out
  pointwise [k0_pay1, val_main_v4, val_main_v3, val_main_v2, val_main_v1, val_main_v0]
  rw [add_comm]
  blk_point [iblk, V, e]

end Cert.OutProjIdeal.Tiles
-- ==== Proof.OutProjClaim.lean ====
module

public import proofs.«01_k».proof.Defs
public import proofs.«01_k».proof.Proof.Gen.OutProj
public import proofs.«01_k».proof.Proof.Gen.OutProjIdeal
public import proofs.«01_k».proof.Proof.Gen.OutProjIdeal.Frame
public import proofs.«01_k».proof.Proof.Gen.OutProjRefIdeal.Run
public import proofs.«01_k».proof.Proof.OutProjValue
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem refFrameOutProj : quiescent_OutProjRefIdeal (hOutProjRefIdeal := Cert.OutProjRefIdeal.Gen.facts) := fun m ρ _ =>
  (θ_run Cert.OutProjRefIdeal.defs _ _).mono (fun r h => ⟨fun c => (h c).2, sem_eq_zero_of_no_sems (by decide) r.2⟩)
    (Cert.OutProjRefIdeal.Value.run (F := Ideal) m ρ)

set_option maxHeartbeats 1600000 in
theorem valueOutProj : algebraic_OutProjIdeal_OutProjRefIdeal (hOutProjIdeal := Cert.OutProjIdeal.Gen.facts) (hOutProjRefIdeal := Cert.OutProjRefIdeal.Gen.facts) := by
  pair_intro
  · run_from Cert.OutProjIdeal.Gen.run_main m g
  · hlo_run
    · exact (Cert.OutProjIdeal.Tiles.final m c).symm

end Cert.Proof

end
-- ==== Proof.Ff1Value.lean ====
module

public import proofs.«01_k».proof.Proof.Gen.Ff1Ideal.Value
public import proofs.«01_k».proof.Proof.Gen.Ff1RefIdeal.Run
public import proofs.«01_k».proof.Proof.Gen.Ff1RefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Ff1Ideal.Tiles

open Cert.Ff1Ideal Cert.Ff1Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 8, 0] ∧ win0_1.index t = ![0, 0]
    ∧ win0_2.index t = ![1, 0, t.val % 8] ∧ win0_3.index t = ![t.val / 8, t.val % 8] :=
  (by decide +kernel : ∀ t : Fin grid0.N, _)

/-- The first point of the row block of `n`. -/
def rowPt (n : ℕ) (hn : n < cfg0.N) : Fin cfg0.N := ⟨8 * (n / 8), by omega⟩

/-- The scratch holds the normalised rows of the point's row block. -/
theorem rows (c : Dev nD) : ∀ (n : ℕ) (hn : n < cfg0.N),
    (outsAt0 m c n hn).2 = k0_pay1 (iblk m c 0 (rowPt n hn)) (iblk m c 1 (rowPt n hn)) := by
  intro n
  induction n with
  | zero => intro hn; rw [outsAt0_A m c ⟨0, hn⟩ rfl]; frame_out; rfl
  | succ n ih =>
    intro hn
    by_cases h : (n + 1) % 8 = 0
    · rw [outsAt0_A m c ⟨n + 1, hn⟩ h]; frame_out
      have e : rowPt (n + 1) hn = ⟨n + 1, hn⟩ := Fin.ext (by show 8 * ((n + 1) / 8) = n + 1; omega)
      rw [e]
    · rw [outsAt0_B m c ⟨n + 1, hn⟩ h]; frame_out
      have e : rowPt (n + 1) hn = rowPt n (by omega) := Fin.ext (by show 8 * ((n + 1) / 8) = 8 * (n / 8); omega)
      rw [e, ← ih (by omega)]
      rfl

/-- Between two row blocks the scratch is carried over. -/
theorem carry (c : Dev nD) (t : Fin cfg0.N) (h : ¬ t.val % 8 = 0) :
    (outsAt0 m c t.val t.isLt).2 = (outsAt0 m c (t.val - 1) (by omega)).2 := by
  rw [outsAt0_B m c t h]; frame_out; rfl

theorem outA (c : Dev nD) (t : Fin cfg0.N) :
    (outsAt0 m c t.val t.isLt).1 = k0_pay2 ((outsAt0 m c t.val t.isLt).2) (iblk m c 2 t) := by
  by_cases h : t.val % 8 = 0
  · rw [outsAt0_A m c t h]; frame_out
  · rw [carry m c t h, outsAt0_B m c t h]; frame_out
    rw [read_unread_whole]

open Ff1RefIdeal.Read in
theorem final (c : Dev nD) : (dats m 0 c).arrAt 3 (cfgs 0).N =
    val_main_v20 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  have e := idx t
  have e' := idx (rowPt t.val t.isLt)
  rw [show (rowPt t.val t.isLt).val = 8 * (t.val / 8) from rfl, Nat.mul_div_cancel_left _ (by decide)] at e'
  blk_simp
  rw [after0_3, outA, rows]
  pointwise [k0_pay1, k0_pay2, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_call0_cst, val_main_call0_v0]
  blk_point [iblk, V, e, e']

end Cert.Ff1Ideal.Tiles
-- ==== Proof.Ff1Claim.lean ====
module

public import proofs.«01_k».proof.Defs
public import proofs.«01_k».proof.Proof.Gen.Ff1
public import proofs.«01_k».proof.Proof.Gen.Ff1Ideal
public import proofs.«01_k».proof.Proof.Gen.Ff1Ideal.Frame
public import proofs.«01_k».proof.Proof.Gen.Ff1RefIdeal.Run
public import proofs.«01_k».proof.Proof.Ff1Value
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem refFrameFf1 : quiescent_Ff1RefIdeal (hFf1RefIdeal := Cert.Ff1RefIdeal.Gen.facts) := fun m ρ _ =>
  (θ_run Cert.Ff1RefIdeal.defs _ _).mono (fun r h => ⟨fun c => (h c).2, sem_eq_zero_of_no_sems (by decide) r.2⟩)
    (Cert.Ff1RefIdeal.Value.run (F := Ideal) m ρ)

set_option maxHeartbeats 1600000 in
theorem valueFf1 : algebraic_Ff1Ideal_Ff1RefIdeal (hFf1Ideal := Cert.Ff1Ideal.Gen.facts) (hFf1RefIdeal := Cert.Ff1RefIdeal.Gen.facts) := by
  pair_intro
  · run_from Cert.Ff1Ideal.Gen.run_main m g
  · hlo_run
    · exact (Cert.Ff1Ideal.Tiles.final m c).symm

end Cert.Proof

end
-- ==== Proof.Ff2Value.lean ====
module

public import proofs.«01_k».proof.Proof.Gen.Ff2Ideal.Value
public import proofs.«01_k».proof.Proof.Gen.Ff2RefIdeal.Run
public import proofs.«01_k».proof.Proof.Gen.Ff2RefIdeal.Read
public import Idealize.ShloMosaic.Lib.Pipeline.ValueKit
public import Idealize.ShloMosaic.Lib.Pointwise
public import Idealize.ShloMosaic.Lib.Claim

@[expose] public section

set_option maxRecDepth 16384

noncomputable section

namespace Cert.Ff2Ideal.Tiles

open Cert.Ff2Ideal Cert.Ff2Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 4, 0] ∧ win0_1.index t = ![1, 0, t.val % 4]
    ∧ win0_2.index t = ![t.val / 4, t.val % 4] ∧ win0_3.index t = ![t.val / 4, t.val % 4] :=
  (by decide +kernel : ∀ t : Fin grid0.N, _)

open Ff2RefIdeal.Read in
theorem final (c : Dev nD) : (dats m 0 c).arrAt 3 (cfgs 0).N =
    val_main_v4 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  have e := idx t
  blk_simp
  rw [after0_3]; frame_out
  pointwise [k0_pay1, val_main_v4, val_main_v3, val_main_v2, val_main_v1, val_main_v0]
  rw [add_comm]
  blk_point [iblk, V, e]

end Cert.Ff2Ideal.Tiles
-- ==== Proof.Ff2Claim.lean ====
module

public import proofs.«01_k».proof.Defs
public import proofs.«01_k».proof.Proof.Gen.Ff2
public import proofs.«01_k».proof.Proof.Gen.Ff2Ideal
public import proofs.«01_k».proof.Proof.Gen.Ff2Ideal.Frame
public import proofs.«01_k».proof.Proof.Gen.Ff2RefIdeal.Run
public import proofs.«01_k».proof.Proof.Ff2Value
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem refFrameFf2 : quiescent_Ff2RefIdeal (hFf2RefIdeal := Cert.Ff2RefIdeal.Gen.facts) := fun m ρ _ =>
  (θ_run Cert.Ff2RefIdeal.defs _ _).mono (fun r h => ⟨fun c => (h c).2, sem_eq_zero_of_no_sems (by decide) r.2⟩)
    (Cert.Ff2RefIdeal.Value.run (F := Ideal) m ρ)

set_option maxHeartbeats 1600000 in
theorem valueFf2 : algebraic_Ff2Ideal_Ff2RefIdeal (hFf2Ideal := Cert.Ff2Ideal.Gen.facts) (hFf2RefIdeal := Cert.Ff2RefIdeal.Gen.facts) := by
  pair_intro
  · run_from Cert.Ff2Ideal.Gen.run_main m g
  · hlo_run
    · exact (Cert.Ff2Ideal.Tiles.final m c).symm

end Cert.Proof

end
-- ==== Proof.MemKvValue.lean ====
module

public import proofs.«01_k».proof.Proof.Gen.MemKvIdeal.Value
public import proofs.«01_k».proof.Proof.Gen.MemKvRefIdeal.Run
public import proofs.«01_k».proof.Proof.Gen.MemKvRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.MemKvIdeal.Tiles

open Cert.MemKvIdeal Cert.MemKvIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, 0] ∧ win0_1.index t = ![1, 0, t.val % 2]
    ∧ win0_2.index t = ![0, t.val % 2] :=
  (by decide +kernel : ∀ t : Fin grid0.N, _)

/-- The first point: it fills the scratch. -/
def firstPt : Fin cfg0.N := ⟨0, by decide⟩

/-- The scratch holds the memory's rows. -/
theorem rows (c : Dev nD) : ∀ (n : ℕ) (hn : n < cfg0.N),
    (outsAt0 m c n hn).2 = k0_pay1 (iblk m c 0 firstPt) := by
  intro n
  induction n with
  | zero => intro hn; rw [outsAt0_A m c ⟨0, hn⟩ rfl]; frame_out; rfl
  | succ n ih =>
    intro hn
    have h2 : n + 1 < 2 := lt_of_lt_of_eq hn N_0
    rw [outsAt0_B m c ⟨n + 1, hn⟩ (by show ¬ (n + 1) % 2 = 0; omega)]; frame_out
    rw [← ih (by omega)]
    rfl

/-- Past the first point the scratch is carried over. -/
theorem carry (c : Dev nD) (t : Fin cfg0.N) (h : ¬ t.val % 2 = 0) :
    (outsAt0 m c t.val t.isLt).2 = (outsAt0 m c (t.val - 1) (by omega)).2 := by
  rw [outsAt0_B m c t h]; frame_out; rfl

theorem outA (c : Dev nD) (t : Fin cfg0.N) :
    (outsAt0 m c t.val t.isLt).1 = k0_pay2 ((outsAt0 m c t.val t.isLt).2) (iblk m c 1 t) := by
  by_cases h : t.val % 2 = 0
  · rw [outsAt0_A m c t h]; frame_out
  · rw [carry m c t h, outsAt0_B m c t h]; frame_out
    rw [read_unread_whole]

open MemKvRefIdeal.Read in
theorem final (c : Dev nD) : (dats m 0 c).arrAt 2 (cfgs 0).N =
    val_main_v3 (F := Ideal) (m ((c : Thread nD τ).loc main_arg0)) (m ((c : Thread nD τ).loc main_arg1)) := by
  refine (dats m 0 c).arrAt_eq_of_covers 2 _ (by decide +kernel) fun t _ y => ?_
  have e := idx t
  have e' := idx firstPt
  blk_simp
  rw [after0_2, outA, rows]
  pointwise [k0_pay1, k0_pay2, val_main_v3, val_main_v2, val_main_v1, val_main_v0]
  blk_point [iblk, V, e, e']

end Cert.MemKvIdeal.Tiles
-- ==== Proof.MemKvClaim.lean ====
module

public import proofs.«01_k».proof.Defs
public import proofs.«01_k».proof.Proof.Gen.MemKv
public import proofs.«01_k».proof.Proof.Gen.MemKvIdeal
public import proofs.«01_k».proof.Proof.Gen.MemKvIdeal.Frame
public import proofs.«01_k».proof.Proof.Gen.MemKvRefIdeal.Run
public import proofs.«01_k».proof.Proof.MemKvValue
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem refFrameMemKv : quiescent_MemKvRefIdeal (hMemKvRefIdeal := Cert.MemKvRefIdeal.Gen.facts) := fun m ρ _ =>
  (θ_run Cert.MemKvRefIdeal.defs _ _).mono (fun r h => ⟨fun c => (h c).2, sem_eq_zero_of_no_sems (by decide) r.2⟩)
    (Cert.MemKvRefIdeal.Value.run (F := Ideal) m ρ)

set_option maxHeartbeats 1600000 in
theorem valueMemKv : algebraic_MemKvIdeal_MemKvRefIdeal (hMemKvIdeal := Cert.MemKvIdeal.Gen.facts) (hMemKvRefIdeal := Cert.MemKvRefIdeal.Gen.facts) := by
  pair_intro
  · run_from Cert.MemKvIdeal.Gen.run_main m g
  · hlo_run
    · exact (Cert.MemKvIdeal.Tiles.final m c).symm

end Cert.Proof

end
-- ==== Proof.FinalNormValue.lean ====
module

public import proofs.«01_k».proof.Proof.Gen.FinalNormIdeal.Value
public import proofs.«01_k».proof.Proof.Gen.FinalNormRefIdeal.Run
public import proofs.«01_k».proof.Proof.Gen.FinalNormRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.FinalNormIdeal.Tiles

open Cert.FinalNormIdeal Cert.FinalNormIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

open FinalNormRefIdeal.Read in
theorem final (c : Dev nD) : (dats m 0 c).arrAt 2 (cfgs 0).N =
    val_main_v12 (F := Ideal) (m ((c : Thread nD τ).loc main_arg0)) (m ((c : Thread nD τ).loc main_arg1)) := by
  refine (dats m 0 c).arrAt_eq_of_covers 2 _ (by decide +kernel) fun t _ y => ?_
  have e := idx t
  blk_simp
  rw [after0_2]
  frame_out
  pointwise [k0_pay1, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, e]

end Cert.FinalNormIdeal.Tiles
-- ==== Proof.FinalNormClaim.lean ====
module

public import proofs.«01_k».proof.Defs
public import proofs.«01_k».proof.Proof.Gen.FinalNorm
public import proofs.«01_k».proof.Proof.Gen.FinalNormIdeal
public import proofs.«01_k».proof.Proof.Gen.FinalNormIdeal.Frame
public import proofs.«01_k».proof.Proof.Gen.FinalNormRefIdeal.Run
public import proofs.«01_k».proof.Proof.FinalNormValue
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem refFrameFinalNorm : quiescent_FinalNormRefIdeal (hFinalNormRefIdeal := Cert.FinalNormRefIdeal.Gen.facts) := fun m ρ _ =>
  (θ_run Cert.FinalNormRefIdeal.defs _ _).mono (fun r h => ⟨fun c => (h c).2, sem_eq_zero_of_no_sems (by decide) r.2⟩)
    (Cert.FinalNormRefIdeal.Value.run (F := Ideal) m ρ)

set_option maxHeartbeats 1600000 in
theorem valueFinalNorm : algebraic_FinalNormIdeal_FinalNormRefIdeal (hFinalNormIdeal := Cert.FinalNormIdeal.Gen.facts) (hFinalNormRefIdeal := Cert.FinalNormRefIdeal.Gen.facts) := by
  pair_intro
  · run_from Cert.FinalNormIdeal.Gen.run_main m g
  · hlo_run
    · exact (Cert.FinalNormIdeal.Tiles.final m c).symm

end Cert.Proof

end
-- ==== Proof.HeadsOutValue.lean ====
module

public import proofs.«01_k».proof.Proof.Gen.HeadsOutIdeal.Value
public import proofs.«01_k».proof.Proof.Gen.HeadsOutRefIdeal.Run
public import proofs.«01_k».proof.Proof.Gen.HeadsOutRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.HeadsOutIdeal.Tiles

open Cert.HeadsOutIdeal Cert.HeadsOutIdeal.Gen Idealize.ShloMosaic Idealize.ShloMosaic.TcCoe Idealize.SL.Sem
open Idealize.ShloMosaic.Pipeline (Dat)
open Cert.HeadsOutIdeal.Value

variable (m : (ℓ : Loc nD τ sig) → Buf (Elt Ideal) ℓ)

theorem idx : ∀ t : Fin cfg0.N, win0_0.index t = ![t.val, 1] ∧ win0_1.index t = ![t.val, 2] ∧ win0_2.index t = ![1, t.val, 0, 0] ∧ win0_3.index t = ![1, t.val, 0, 0] :=
  (by decide +kernel : ∀ t : Fin grid0.N, _)

theorem flushes : ∀ t : Fin cfg0.N, (cfg0.win 2).flush t = true ∧ (cfg0.win 3).flush t = true :=
  (by decide +kernel : ∀ t : Fin grid0.N, _)

theorem stack2 (c : Dev nD) : V m c main_v0_0 = m ((c : Thread nD τ).loc main_arg1) := by
  dsimp only [V, hostOps0]; after_results <;> rfl

theorem stack3 (c : Dev nD) : V m c main_v0_1 = m ((c : Thread nD τ).loc main_arg2) := by
  dsimp only [V, hostOps0]; after_results <;> rfl

open HeadsOutRefIdeal.Read in
theorem ref6_out (z : (⟨HeadsOutRefIdeal.S8192x19584, .f32⟩ : BufTy).Contents (Elt Ideal)) (k : (⟨HeadsOutRefIdeal.S4x8192x8x128, .f32⟩ : BufTy).Contents (Elt Ideal))
    (i : S4x8192x8x128.Idx) (h : (i 0).val ≠ 1) : val_main_v6 (F := Ideal) z k i = k i := by
  have h4 : (i 0).val < 4 := (i 0).isLt
  pointwise [val_main_v6, val_main_v5, val_main_v4, val_main_v1, val_main_v0]
  by_cases h0 : (i 0).val < 1
  · exact dif_pos h0
  · rw [dif_neg h0, dif_neg (by omega)]
    exact congrArg k (funext fun a => match a with | ⟨0, _⟩ => Fin.ext (by show 2 + ((i 0).val - 1 - 1) = (i 0).val; omega) | ⟨1, _⟩ => rfl | ⟨2, _⟩ => rfl | ⟨3, _⟩ => rfl)

open HeadsOutRefIdeal.Read in
theorem ref6_in (z : (⟨HeadsOutRefIdeal.S8192x19584, .f32⟩ : BufTy).Contents (Elt Ideal)) (k : (⟨HeadsOutRefIdeal.S4x8192x8x128, .f32⟩ : BufTy).Contents (Elt Ideal))
    (i : S4x8192x8x128.Idx) (h : (i 0).val = 1) (j : HeadsOutRefIdeal.S8192x19584.Idx) (j0 : (j 0).val = (i 1).val) (j1 : (j 1).val = 1024 + ((i 2).val * 128 + (i 3).val)) :
    val_main_v6 (F := Ideal) z k i = z j := by
  have h2 : (i 2).val < 8 := (i 2).isLt
  have h3 : (i 3).val < 128 := (i 3).isLt
  pointwise [val_main_v6, val_main_v5, val_main_v4, val_main_v1, val_main_v0]
  rw [dif_neg (by omega), dif_pos (by omega)]
  exact congrArg z (funext fun a => match a with | ⟨0, _⟩ => Fin.ext j0.symm | ⟨1, _⟩ => Fin.ext j1.symm)

open HeadsOutRefIdeal.Read in
theorem ref9_out (z : (⟨HeadsOutRefIdeal.S8192x19584, .f32⟩ : BufTy).Contents (Elt Ideal)) (k : (⟨HeadsOutRefIdeal.S4x8192x8x128, .f32⟩ : BufTy).Contents (Elt Ideal))
    (i : S4x8192x8x128.Idx) (h : (i 0).val ≠ 1) : val_main_v9 (F := Ideal) z k i = k i := by
  have h4 : (i 0).val < 4 := (i 0).isLt
  pointwise [val_main_v9, val_main_v8, val_main_v7, val_main_v3, val_main_v2]
  by_cases h0 : (i 0).val < 1
  · exact dif_pos h0
  · rw [dif_neg h0, dif_neg (by omega)]
    exact congrArg k (funext fun a => match a with | ⟨0, _⟩ => Fin.ext (by show 2 + ((i 0).val - 1 - 1) = (i 0).val; omega) | ⟨1, _⟩ => rfl | ⟨2, _⟩ => rfl | ⟨3, _⟩ => rfl)

open HeadsOutRefIdeal.Read in
theorem ref9_in (z : (⟨HeadsOutRefIdeal.S8192x19584, .f32⟩ : BufTy).Contents (Elt Ideal)) (k : (⟨HeadsOutRefIdeal.S4x8192x8x128, .f32⟩ : BufTy).Contents (Elt Ideal))
    (i : S4x8192x8x128.Idx) (h : (i 0).val = 1) (j : HeadsOutRefIdeal.S8192x19584.Idx) (j0 : (j 0).val = (i 1).val) (j1 : (j 1).val = 2048 + ((i 2).val * 128 + (i 3).val)) :
    val_main_v9 (F := Ideal) z k i = z j := by
  have h2 : (i 2).val < 8 := (i 2).isLt
  have h3 : (i 3).val < 128 := (i 3).isLt
  pointwise [val_main_v9, val_main_v8, val_main_v7, val_main_v3, val_main_v2]
  rw [dif_neg (by omega), dif_pos (by omega)]
  exact congrArg z (funext fun a => match a with | ⟨0, _⟩ => Fin.ext j0.symm | ⟨1, _⟩ => Fin.ext j1.symm)

theorem read0 (c : Dev nD) (t : Fin cfg0.N) (x : S512x1024.Idx) (j : S8192x19584.Idx) (h0 : (j 0).val = t.val * 512 + (x 0).val)
    (h1 : (j 1).val = 1024 + (x 1).val) : X0_0 m c t x = m ((c : Thread nD τ).loc main_arg0) j := by
  have e := (idx t).1
  unfold X0_0 Pipeline.Window.fill
  rw [dif_pos (moved0_0 t x)]
  show m ((c : Thread nD τ).loc main_arg0) (((cfg0.win 0).blk t).view.emb fun a => ⟨(x a).val, _⟩) = _
  refine congrArg _ (funext fun a => match a with | ⟨0, _⟩ => Fin.ext (Eq.trans ?_ h0.symm) | ⟨1, _⟩ => Fin.ext (Eq.trans ?_ h1.symm))
  · show win0_0.index t 0 * 512 + 1 * (x 0).val = _
    rw [e]; simp
  · show win0_0.index t 1 * 1024 + 1 * (x 1).val = _
    rw [e]; simp

theorem read1 (c : Dev nD) (t : Fin cfg0.N) (x : S512x1024.Idx) (j : S8192x19584.Idx) (h0 : (j 0).val = t.val * 512 + (x 0).val)
    (h1 : (j 1).val = 2048 + (x 1).val) : X0_1 m c t x = m ((c : Thread nD τ).loc main_arg0) j := by
  have e := (idx t).2.1
  unfold X0_1 Pipeline.Window.fill
  rw [dif_pos (moved0_1 t x)]
  show m ((c : Thread nD τ).loc main_arg0) (((cfg0.win 1).blk t).view.emb fun a => ⟨(x a).val, _⟩) = _
  refine congrArg _ (funext fun a => match a with | ⟨0, _⟩ => Fin.ext (Eq.trans ?_ h0.symm) | ⟨1, _⟩ => Fin.ext (Eq.trans ?_ h1.symm))
  · show win0_1.index t 0 * 512 + 1 * (x 0).val = _
    rw [e]; simp
  · show win0_1.index t 1 * 1024 + 1 * (x 1).val = _
    rw [e]; simp

/-- A head's columns of a block, stored as that head. -/
theorem piece (X : S512x1024.Idx → Elt Ideal .f32) (o : ℕ) (h) (x : S1x512x1x128.Idx) (j : S512x1024.Idx) (e0 : (j 0).val = (x 1).val) (e1 : (j 1).val = o + (x 3).val) :
    shapeCast S1x512x1x128 (View.ld (Val := Elt Ideal) (e' := .f32) X (Rect.unit (s := S512x1024) ![0, o] ![512, 128] h) : Vec Ideal S512x128 .f32) shapeCasts_S512x128_S1x512x1x128 x = X j := by
  have c : ∀ v : Vec Ideal S512x128 .f32, shapeCast S1x512x1x128 v shapeCasts_S512x128_S1x512x1x128 x = v (ix2 (x 1) (x 3)) := fun v => by pointwise
  rw [c]
  refine congrArg X (funext fun a => match a with | ⟨0, _⟩ => Fin.ext ?_ | ⟨1, _⟩ => Fin.ext ?_)
  · show 0 + 1 * (x 1).val = (j 0).val; omega
  · show o + 1 * (x 3).val = (j 1).val; omega

/-- The block of the keys after a point: the block's columns, cut into heads. -/
theorem out2 (c : Dev nD) (t : Fin cfg0.N) (y : S1x512x8x128.Idx) (j : S512x1024.Idx) (j0 : (j 0).val = (y 1).val) (j1 : (j 1).val = (y 2).val * 128 + (y 3).val) :
    (outsAt0 m c t).1 y = X0_0 m c t j := by
  unfold outsAt0 out0_A_2
  frame_out
  canon_tiles x h
  all_goals exact piece _ _ _ x j (by omega) (by omega)

/-- The block of the values after a point: the block's columns, cut into heads. -/
theorem out3 (c : Dev nD) (t : Fin cfg0.N) (y : S1x512x8x128.Idx) (j : S512x1024.Idx) (j0 : (j 0).val = (y 1).val) (j1 : (j 1).val = (y 2).val * 128 + (y 3).val) :
    (outsAt0 m c t).2 y = X0_1 m c t j := by
  unfold outsAt0 out0_A_3
  frame_out
  canon_tiles x h
  all_goals exact piece _ _ _ x j (by omega) (by omega)

theorem untouched (i : S4x8192x8x128.Idx) (h : (i 0).val ≠ 1) (t : Fin cfg0.N) : i ∉ ((cfg0.win 2).blk t).view.set ∧ i ∉ ((cfg0.win 3).blk t).view.set := by
  have e := idx t
  constructor <;> mem_blk [e] <;> omega

open HeadsOutRefIdeal.Read in
/-- The stack of the keys: layer 1 is written, the others are kept. -/
theorem final2 (c : Dev nD) : (dats m 0 c).arrAt 2 cfg0.N =
    val_main_v6 (F := Ideal) (m ((c : Thread nD τ).loc main_arg0)) (m ((c : Thread nD τ).loc main_arg1)) := by
  refine funext fun (i : S4x8192x8x128.Idx) => ?_
  by_cases h : (i 0).val = 1
  · have b1 : (i 1).val < 8192 := (i 1).isLt
    have b2 : (i 2).val < 8 := (i 2).isLt
    have b3 : (i 3).val < 128 := (i 3).isLt
    obtain ⟨t, ht⟩ : ∃ t : Fin cfg0.N, t.val = (i 1).val / 512 := ⟨⟨(i 1).val / 512, by show _ < 16; omega⟩, rfl⟩
    have e := idx t
    have q := congrFun (blocks2 m c t (flushes t).1) (ix4 0 ⟨(i 1).val % 512, Nat.mod_lt _ (by decide)⟩ (i 2) (i 3))
    have hi : ((cfg0.win 2).blk t).view.emb (ix4 0 ⟨(i 1).val % 512, Nat.mod_lt _ (by decide)⟩ (i 2) (i 3)) = i := funext fun a => match a with
      | ⟨0, _⟩ => Fin.ext (by show win0_2.index t 0 * 1 + 1 * 0 = (i 0).val; rw [e.2.2.1]; simp [h])
      | ⟨1, _⟩ => Fin.ext (by show win0_2.index t 1 * 512 + 1 * ((i 1).val % 512) = (i 1).val; rw [e.2.2.1]; simp; omega)
      | ⟨2, _⟩ => Fin.ext (by show win0_2.index t 2 * 8 + 1 * (i 2).val = (i 2).val; rw [e.2.2.1]; simp)
      | ⟨3, _⟩ => Fin.ext (by show win0_2.index t 3 * 128 + 1 * (i 3).val = (i 3).val; rw [e.2.2.1]; simp)
    have q' := (congrArg ((dats m 0 c).arrAt 2 cfg0.N) hi).symm.trans q
    refine q'.trans ?_
    blk_simp
    rw [after0_2]
    refine (out2 m c t (ix4 0 ⟨(i 1).val % 512, Nat.mod_lt _ (by decide)⟩ (i 2) (i 3)) (ix2 ⟨(i 1).val % 512, Nat.mod_lt _ (by decide)⟩ ⟨(i 2).val * 128 + (i 3).val, by omega⟩) rfl rfl).trans ?_
    rw [ref6_in (m ((c : Thread nD τ).loc main_arg0)) (m ((c : Thread nD τ).loc main_arg1)) i h (ix2 (i 1) ⟨1024 + ((i 2).val * 128 + (i 3).val), by omega⟩) rfl rfl]
    refine read0 m c t _ _ ?_ rfl
    show (i 1).val = t.val * 512 + (i 1).val % 512
    omega
  · rw [entry2 m c i fun t _ => (untouched i h t).1]
    exact (congrFun (stack2 m c) i).trans (ref6_out _ _ i h).symm

open HeadsOutRefIdeal.Read in
/-- The stack of the values: layer 1 is written, the others are kept. -/
theorem final3 (c : Dev nD) : (dats m 0 c).arrAt 3 cfg0.N =
    val_main_v9 (F := Ideal) (m ((c : Thread nD τ).loc main_arg0)) (m ((c : Thread nD τ).loc main_arg2)) := by
  refine funext fun (i : S4x8192x8x128.Idx) => ?_
  by_cases h : (i 0).val = 1
  · have b1 : (i 1).val < 8192 := (i 1).isLt
    have b2 : (i 2).val < 8 := (i 2).isLt
    have b3 : (i 3).val < 128 := (i 3).isLt
    obtain ⟨t, ht⟩ : ∃ t : Fin cfg0.N, t.val = (i 1).val / 512 := ⟨⟨(i 1).val / 512, by show _ < 16; omega⟩, rfl⟩
    have e := idx t
    have q := congrFun (blocks3 m c t (flushes t).2) (ix4 0 ⟨(i 1).val % 512, Nat.mod_lt _ (by decide)⟩ (i 2) (i 3))
    have hi : ((cfg0.win 3).blk t).view.emb (ix4 0 ⟨(i 1).val % 512, Nat.mod_lt _ (by decide)⟩ (i 2) (i 3)) = i := funext fun a => match a with
      | ⟨0, _⟩ => Fin.ext (by show win0_3.index t 0 * 1 + 1 * 0 = (i 0).val; rw [e.2.2.2]; simp [h])
      | ⟨1, _⟩ => Fin.ext (by show win0_3.index t 1 * 512 + 1 * ((i 1).val % 512) = (i 1).val; rw [e.2.2.2]; simp; omega)
      | ⟨2, _⟩ => Fin.ext (by show win0_3.index t 2 * 8 + 1 * (i 2).val = (i 2).val; rw [e.2.2.2]; simp)
      | ⟨3, _⟩ => Fin.ext (by show win0_3.index t 3 * 128 + 1 * (i 3).val = (i 3).val; rw [e.2.2.2]; simp)
    have q' := (congrArg ((dats m 0 c).arrAt 3 cfg0.N) hi).symm.trans q
    refine q'.trans ?_
    blk_simp
    rw [after0_3]
    refine (out3 m c t (ix4 0 ⟨(i 1).val % 512, Nat.mod_lt _ (by decide)⟩ (i 2) (i 3)) (ix2 ⟨(i 1).val % 512, Nat.mod_lt _ (by decide)⟩ ⟨(i 2).val * 128 + (i 3).val, by omega⟩) rfl rfl).trans ?_
    rw [ref9_in (m ((c : Thread nD τ).loc main_arg0)) (m ((c : Thread nD τ).loc main_arg2)) i h (ix2 (i 1) ⟨2048 + ((i 2).val * 128 + (i 3).val), by omega⟩) rfl rfl]
    refine read1 m c t _ _ ?_ rfl
    show (i 1).val = t.val * 512 + (i 1).val % 512
    omega
  · rw [entry3 m c i fun t _ => (untouched i h t).2]
    exact (congrFun (stack3 m c) i).trans (ref9_out _ _ i h).symm

end Cert.HeadsOutIdeal.Tiles
-- ==== Proof.HeadsOutClaim.lean ====
module

public import proofs.«01_k».proof.Defs
public import proofs.«01_k».proof.Proof.Gen.HeadsOut
public import proofs.«01_k».proof.Proof.Gen.HeadsOutIdeal
public import proofs.«01_k».proof.Proof.Gen.HeadsOutIdeal.Frame
public import proofs.«01_k».proof.Proof.Gen.HeadsOutRefIdeal.Run
public import proofs.«01_k».proof.Proof.HeadsOutValue
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem refFrameHeadsOut : quiescent_HeadsOutRefIdeal (hHeadsOutRefIdeal := Cert.HeadsOutRefIdeal.Gen.facts) := fun m ρ _ =>
  (θ_run Cert.HeadsOutRefIdeal.defs _ _).mono (fun r h => ⟨fun c => (h c).2.2, sem_eq_zero_of_no_sems (by decide) r.2⟩)
    (Cert.HeadsOutRefIdeal.Value.run (F := Ideal) m ρ)

set_option maxHeartbeats 1600000 in
theorem valueHeadsOut : algebraic_HeadsOutIdeal_HeadsOutRefIdeal (hHeadsOutIdeal := Cert.HeadsOutIdeal.Gen.facts) (hHeadsOutRefIdeal := Cert.HeadsOutRefIdeal.Gen.facts) := by
  pair_intro
  · run_from Cert.HeadsOutIdeal.Gen.run_main m g
  · run_from Cert.HeadsOutRefIdeal.Value.run m' g'
    · exact (Cert.HeadsOutRefIdeal.Read.val_main_v6_eq _ _).trans (Cert.HeadsOutIdeal.Tiles.final2 m c).symm
    · exact (Cert.HeadsOutRefIdeal.Read.val_main_v9_eq _ _).trans ((congrArg (Cert.HeadsOutRefIdeal.Read.val_main_v9 (F := Ideal) _) (hagree c).2.2).trans (Cert.HeadsOutIdeal.Tiles.final3 m c).symm)

end Cert.Proof

end
-- ==== Proof.Sigmoid.lean ====
module

public import Idealize.ShloMosaic.Lib.Pointwise

@[expose] public section

noncomputable section

namespace Cert.Gate

open Idealize.ShloMosaic

theorem real_half_tanh (r : ℝ) : 1 / 2 * Real.tanh (1 / 2 * r) + 1 / 2 = (1 + Real.exp (-r))⁻¹ := by
  have h : Real.exp (-r) = (Real.exp (1 / 2 * r))⁻¹ * (Real.exp (1 / 2 * r))⁻¹ := by
    rw [← Real.exp_neg, ← Real.exp_add]; congr 1; ring
  have hp : 0 < Real.exp (1 / 2 * r) := Real.exp_pos _
  rw [h, Real.tanh_eq_sinh_div_cosh, Real.sinh_eq, Real.cosh_eq, Real.exp_neg]
  generalize Real.exp (1 / 2 * r) = a at hp
  field_simp
  ring

/-- Half a hyperbolic tangent of half the argument, plus one half, is the logistic function, at the infinities too. -/
theorem half_tanh (g : EReal) :
    ((1 / 2 : ℝ) : EReal) * Ideal.tanh (((1 / 2 : ℝ) : EReal) * g) + ((1 / 2 : ℝ) : EReal) = Ideal.logistic g := by
  induction g with
  | bot =>
    rw [EReal.coe_mul_bot_of_pos (by norm_num), Ideal.tanh_bot, Ideal.logistic_bot, ← EReal.coe_one, ← EReal.coe_neg, ← EReal.coe_mul, ← EReal.coe_add, ← EReal.coe_zero]
    norm_num
  | top =>
    rw [EReal.coe_mul_top_of_pos (by norm_num), Ideal.tanh_top, Ideal.logistic_top, ← EReal.coe_one, ← EReal.coe_mul, ← EReal.coe_add]
    norm_num
  | coe r =>
    rw [← EReal.coe_mul, Ideal.tanh_coe, ← EReal.coe_mul, ← EReal.coe_add, real_half_tanh, Ideal.logistic_coe]

/-- The pattern of one half. -/
theorem half_bits : (Ideal.ofBits .f32 0x3F000000#32 : EReal) = ((1 / 2 : ℝ) : EReal) := by
  simp [Ideal.ofBits, Ideal.ieee]
  rw [← EReal.coe_mul]
  norm_num

end Cert.Gate
-- ==== Proof.MergeValue.lean ====
module

public import proofs.«01_k».proof.Proof.Gen.MergeIdeal.Value
public import proofs.«01_k».proof.Proof.Gen.MergeRefIdeal.Run
public import proofs.«01_k».proof.Proof.Gen.MergeRefIdeal.Read
public import Idealize.ShloMosaic.Lib.Pipeline.ValueKit
public import proofs.«01_k».proof.Proof.Sigmoid
public import Idealize.ShloMosaic.Lib.Pointwise
public import Idealize.ShloMosaic.Lib.Claim

@[expose] public section

set_option maxRecDepth 16384

noncomputable section

namespace Cert.MergeIdeal.Tiles

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

/-- A gate as the kernel writes it. -/
theorem gate (g : EReal) : Ideal.ofBits .f32 0x3F000000#32 * Ideal.tanh (Ideal.ofBits .f32 0x3F000000#32 * g) + Ideal.ofBits .f32 0x3F000000#32
    = Ideal.logistic g := by
  rw [Cert.Gate.half_bits]; exact Cert.Gate.half_tanh g

/-- The first two branches, each weighted by its gate. -/
theorem first (v0 : Vec Ideal S1024x512 .bf16) (v9 : Vec Ideal S1024x1024 .bf16) (v10 : Vec Ideal S1x1x1024x512 .bf16) (v14 : Vec Ideal S1024x512 .bf16)
    (v23 : Vec Ideal S1024x1024 .bf16) (v24 : Vec Ideal S1x1x1024x512 .bf16) (y : S1024x512.Idx) :
    k0_pay2 (F := Ideal) v0 v9 v10 v14 v23 v24 y =
      Ideal.logistic (v0 y) * (∑ x, v10 (ix4 0 0 x (y 1)) * v9 (ix2 (y 0) x)) + Ideal.logistic (v14 y) * ∑ x, v24 (ix4 0 0 x (y 1)) * v23 (ix2 (y 0) x) := by
  pointwise [k0_pay2, gate]
  simp only [mul_comm]

/-- The last two branches added to what the first two gave. -/
theorem second (v28 v30 : FVec Ideal S1024x512 .f32) (v38 : Vec Ideal S1024x1024 .bf16) (v39 : Vec Ideal S1x1x1024x512 .bf16) (v44 : Vec Ideal S1024x512 .bf16)
    (v53 : Vec Ideal S1024x1024 .bf16) (v54 : Vec Ideal S1x1x1024x512 .bf16) (y : S1024x512.Idx) :
    k0_pay1 (F := Ideal) v28 v30 (Scalar.ofBits .f32 0x3F000000#32) v38 v39 v44 v53 v54 y =
      v28 y + Ideal.logistic (v30 y) * (∑ x, v39 (ix4 0 0 x (y 1)) * v38 (ix2 (y 0) x))
        + Ideal.logistic (v44 y) * ∑ x, v54 (ix4 0 0 x (y 1)) * v53 (ix2 (y 0) x) := by
  pointwise [k0_pay1, gate]
  simp only [mul_comm]

theorem idx : ∀ t : Fin cfg0.N, win0_0.index t = ![t.val / 4, 0] ∧ win0_1.index t = ![t.val / 4, 0] ∧ win0_2.index t = ![t.val / 4, 0]
    ∧ win0_3.index t = ![t.val / 4, 0] ∧ win0_4.index t = ![t.val / 4, 22 + t.val % 4] ∧ win0_5.index t = ![t.val / 4, 26 + t.val % 4]
    ∧ win0_6.index t = ![t.val / 4, 30 + t.val % 4] ∧ win0_7.index t = ![t.val / 4, 34 + t.val % 4] ∧ win0_8.index t = ![1, 0, 0, t.val % 4]
    ∧ win0_9.index t = ![t.val / 4, t.val % 4] :=
  (by decide +kernel : ∀ t : Fin grid0.N, _)

/-- Two multi-indices of the packed projections with the same row and column are the same. -/
theorem at_point (i j : S8192x19584.Idx) (h0 : (i 0).val = (j 0).val) (h1 : (i 1).val = (j 1).val) : i = j :=
  funext fun a => match a with
    | ⟨0, _⟩ => Fin.ext h0
    | ⟨1, _⟩ => Fin.ext h1

theorem read4 (c : Dev nD) (t : Fin cfg0.N) (y : S1024x512.Idx) (j : S8192x19584.Idx) (h0 : (j 0).val = t.val / 4 * 1024 + (y 0).val)
    (h1 : (j 1).val = (22 + t.val % 4) * 512 + (y 1).val) : X0_4 m c t y = m ((c : Thread nD τ).loc main_arg4) j := by
  have e := (idx t).2.2.2.2.1
  unfold X0_4 Pipeline.Window.fill
  rw [dif_pos (moved0_4 t y)]
  show m ((c : Thread nD τ).loc main_arg4) (((cfg0.win 4).blk t).view.emb fun a => ⟨(y a).val, _⟩) = _
  refine congrArg _ (at_point _ _ (Eq.trans ?_ h0.symm) (Eq.trans ?_ h1.symm))
  · show win0_4.index t 0 * 1024 + 1 * (y 0).val = _
    rw [e]; simp
  · show win0_4.index t 1 * 512 + 1 * (y 1).val = _
    rw [e]; simp

theorem read5 (c : Dev nD) (t : Fin cfg0.N) (y : S1024x512.Idx) (j : S8192x19584.Idx) (h0 : (j 0).val = t.val / 4 * 1024 + (y 0).val)
    (h1 : (j 1).val = (26 + t.val % 4) * 512 + (y 1).val) : X0_5 m c t y = m ((c : Thread nD τ).loc main_arg4) j := by
  have e := (idx t).2.2.2.2.2.1
  unfold X0_5 Pipeline.Window.fill
  rw [dif_pos (moved0_5 t y)]
  show m ((c : Thread nD τ).loc main_arg4) (((cfg0.win 5).blk t).view.emb fun a => ⟨(y a).val, _⟩) = _
  refine congrArg _ (at_point _ _ (Eq.trans ?_ h0.symm) (Eq.trans ?_ h1.symm))
  · show win0_5.index t 0 * 1024 + 1 * (y 0).val = _
    rw [e]; simp
  · show win0_5.index t 1 * 512 + 1 * (y 1).val = _
    rw [e]; simp

theorem read6 (c : Dev nD) (t : Fin cfg0.N) (y : S1024x512.Idx) (j : S8192x19584.Idx) (h0 : (j 0).val = t.val / 4 * 1024 + (y 0).val)
    (h1 : (j 1).val = (30 + t.val % 4) * 512 + (y 1).val) : X0_6 m c t y = m ((c : Thread nD τ).loc main_arg4) j := by
  have e := (idx t).2.2.2.2.2.2.1
  unfold X0_6 Pipeline.Window.fill
  rw [dif_pos (moved0_6 t y)]
  show m ((c : Thread nD τ).loc main_arg4) (((cfg0.win 6).blk t).view.emb fun a => ⟨(y a).val, _⟩) = _
  refine congrArg _ (at_point _ _ (Eq.trans ?_ h0.symm) (Eq.trans ?_ h1.symm))
  · show win0_6.index t 0 * 1024 + 1 * (y 0).val = _
    rw [e]; simp
  · show win0_6.index t 1 * 512 + 1 * (y 1).val = _
    rw [e]; simp

theorem read7 (c : Dev nD) (t : Fin cfg0.N) (y : S1024x512.Idx) (j : S8192x19584.Idx) (h0 : (j 0).val = t.val / 4 * 1024 + (y 0).val)
    (h1 : (j 1).val = (34 + t.val % 4) * 512 + (y 1).val) : X0_7 m c t y = m ((c : Thread nD τ).loc main_arg4) j := by
  have e := (idx t).2.2.2.2.2.2.2.1
  unfold X0_7 Pipeline.Window.fill
  rw [dif_pos (moved0_7 t y)]
  show m ((c : Thread nD τ).loc main_arg4) (((cfg0.win 7).blk t).view.emb fun a => ⟨(y a).val, _⟩) = _
  refine congrArg _ (at_point _ _ (Eq.trans ?_ h0.symm) (Eq.trans ?_ h1.symm))
  · show win0_7.index t 0 * 1024 + 1 * (y 0).val = _
    rw [e]; simp
  · show win0_7.index t 1 * 512 + 1 * (y 1).val = _
    rw [e]; simp

/-- One branch's gated share of the merged row, at one column. -/
abbrev share (z : (⟨MergeRefIdeal.S8192x19584, .bf16⟩ : BufTy).Contents (Elt Ideal)) (o : (⟨MergeRefIdeal.S8192x1024, .bf16⟩ : BufTy).Contents (Elt Ideal))
    (w : (⟨MergeRefIdeal.S4x4x1024x2048, .f32⟩ : BufTy).Contents (Elt Ideal)) (n : Fin 4) (i : S8192x2048.Idx) : EReal :=
  Ideal.logistic (z (ix2 (i 0) ⟨11264 + (n.val * 2048 + (i 1).val), by have : (i 1).val < 2048 := (i 1).isLt; omega⟩)) * ∑ x : Fin 1024, w (ix4 1 n x (i 1)) * o (ix2 (i 0) x)

open MergeRefIdeal.Read in
theorem ref (x0 x1 x2 x3 : (⟨MergeRefIdeal.S8192x1024, .bf16⟩ : BufTy).Contents (Elt Ideal)) (x4 : (⟨MergeRefIdeal.S8192x19584, .bf16⟩ : BufTy).Contents (Elt Ideal))
    (x5 : (⟨MergeRefIdeal.S4x4x1024x2048, .f32⟩ : BufTy).Contents (Elt Ideal)) (i : S8192x2048.Idx) :
    val_main_v24 (F := Ideal) x0 x1 x2 x3 x4 x5 i = share x4 x0 x5 0 i + share x4 x1 x5 1 i + share x4 x2 x5 2 i + share x4 x3 x5 3 i := by
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rw [Fin.sum_univ_four]
  simp only [show ((0 : Fin 4) : ℕ) = 0 from rfl, show ((1 : Fin 4) : ℕ) = 1 from rfl, show ((2 : Fin 4) : ℕ) = 2 from rfl, show ((3 : Fin 4) : ℕ) = 3 from rfl]
  simp (config := { decide := true }) only [dite_true, dite_false, Nat.reduceSub, Nat.reduceLT, ↓reduceDIte]
  rfl

theorem pay3 (v : Vec Ideal S1024x512 .bf16) (y : S1024x512.Idx) : k0_pay3 (F := Ideal) v y = v y := by
  pointwise [k0_pay3]

/-- A branch's share at a point of the kernel's block, from what its operands read there. -/
theorem shares (z : Elt Ideal .bf16) (o : Vec Ideal S1024x1024 .bf16) (w : Vec Ideal S1x1x1024x512 .bf16) (y : S1024x512.Idx)
    (Z : (⟨MergeRefIdeal.S8192x19584, .bf16⟩ : BufTy).Contents (Elt Ideal)) (O : (⟨MergeRefIdeal.S8192x1024, .bf16⟩ : BufTy).Contents (Elt Ideal))
    (W : (⟨MergeRefIdeal.S4x4x1024x2048, .f32⟩ : BufTy).Contents (Elt Ideal)) (n : Fin 4) (i : S8192x2048.Idx)
    (hz : z = Z (ix2 (i 0) ⟨11264 + (n.val * 2048 + (i 1).val), by have : (i 1).val < 2048 := (i 1).isLt; omega⟩))
    (ho : ∀ x : Fin 1024, o (ix2 (y 0) x) = O (ix2 (i 0) x)) (hw : ∀ x : Fin 1024, w (ix4 0 0 x (y 1)) = W (ix4 1 n x (i 1))) :
    Ideal.logistic z * ∑ x, w (ix4 0 0 x (y 1)) * o (ix2 (y 0) x) = share Z O W n i := by
  unfold share
  rw [hz]
  exact congrArg _ (Finset.sum_congr rfl fun x _ => by rw [ho, hw])

open MergeRefIdeal.Read in
theorem final (c : Dev nD) : (dats m 0 c).arrAt 9 (cfgs 0).N =
    val_main_v24 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 9 _ (by decide +kernel) fun t _ y => ?_
  have e := idx t
  obtain ⟨i, hi⟩ : ∃ i, i = ((cfg0.win 9).blk t).view.emb y := ⟨_, rfl⟩
  have i0 : (i 0).val = t.val / 4 * 1024 + (y 0).val := by rw [hi]; blk_simp [e]
  have i1 : (i 1).val = t.val % 4 * 512 + (y 1).val := by rw [hi]; blk_simp [e]
  have hm : t.val % 4 < 4 := Nat.mod_lt _ (by decide)
  have hy : (y 1).val < 512 := ((cfg0.win 9).xinj (cfg0.grid.coords t) y 1).isLt
  rw [← hi, ref]
  blk_simp
  rw [after0_9]
  unfold outsAt0 out0_A_9
  frame_out
  refine (second _ _ _ _ _ _ _ y).trans ?_
  rw [pay3]
  refine congrArg₂ (· + ·) (congrArg₂ (· + ·) ((first _ _ _ _ _ _ y).trans (congrArg₂ (· + ·) ?_ ?_)) ?_) ?_
  · refine shares _ _ _ y _ _ _ _ i (read4 m c t y _ i0 ?_) (fun x => ?_) (fun x => ?_)
    · show 11264 + (0 * 2048 + (i 1).val) = _; omega
    · blk_point [iblk, V, e]
    · blk_point [iblk, V, e]
  · refine shares _ _ _ y _ _ _ _ i (read5 m c t y _ i0 ?_) (fun x => ?_) (fun x => ?_)
    · show 11264 + (1 * 2048 + (i 1).val) = _; omega
    · blk_point [iblk, V, e]
    · blk_point [iblk, V, e]
  · refine shares _ _ _ y _ _ _ _ i (read6 m c t y _ i0 ?_) (fun x => ?_) (fun x => ?_)
    · show 11264 + (2 * 2048 + (i 1).val) = _; omega
    · blk_point [iblk, V, e]
    · blk_point [iblk, V, e]
  · refine shares _ _ _ y _ _ _ _ i (read7 m c t y _ i0 ?_) (fun x => ?_) (fun x => ?_)
    · show 11264 + (3 * 2048 + (i 1).val) = _; omega
    · blk_point [iblk, V, e]
    · blk_point [iblk, V, e]

end Cert.MergeIdeal.Tiles
-- ==== Proof.MergeClaim.lean ====
module

public import proofs.«01_k».proof.Defs
public import proofs.«01_k».proof.Proof.Gen.Merge
public import proofs.«01_k».proof.Proof.Gen.MergeIdeal
public import proofs.«01_k».proof.Proof.Gen.MergeIdeal.Frame
public import proofs.«01_k».proof.Proof.Gen.MergeRefIdeal.Run
public import proofs.«01_k».proof.Proof.MergeValue
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem refFrameMerge : quiescent_MergeRefIdeal (hMergeRefIdeal := Cert.MergeRefIdeal.Gen.facts) := fun m ρ _ =>
  (θ_run Cert.MergeRefIdeal.defs _ _).mono (fun r h => ⟨fun c => (h c).2, sem_eq_zero_of_no_sems (by decide) r.2⟩)
    (Cert.MergeRefIdeal.Value.run (F := Ideal) m ρ)

set_option maxHeartbeats 1600000 in
theorem valueMerge : algebraic_MergeIdeal_MergeRefIdeal (hMergeIdeal := Cert.MergeIdeal.Gen.facts) (hMergeRefIdeal := Cert.MergeRefIdeal.Gen.facts) := by
  pair_intro
  · run_from Cert.MergeIdeal.Gen.run_main m g
  · run_from Cert.MergeRefIdeal.Value.run m' g'
    · exact (Cert.MergeRefIdeal.Read.val_main_v24_eq _ _ _ _ _ _).trans (Cert.MergeIdeal.Tiles.final m c).symm

end Cert.Proof

end
-- ==== Proof.MemAttnValue.lean ====
module

public import proofs.«01_k».proof.Proof.Gen.MemAttnIdeal.Value
public import proofs.«01_k».proof.Proof.Gen.MemAttnRefIdeal.Run
public import proofs.«01_k».proof.Proof.Gen.MemAttnRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.MemAttnIdeal.Tiles

open Cert.MemAttnIdeal Cert.MemAttnIdeal.Gen Idealize.ShloMosaic Idealize.ShloMosaic.TcCoe Idealize.SL.Sem
open Idealize.ShloMosaic.Pipeline (Dat)

variable (m : (ℓ : Loc nD τ sig) → Buf (Elt Ideal) ℓ)

/-- The softmax of the scores `s`, times the values `v`, summed. -/
def att (s v : Fin 256 → EReal) : EReal :=
  ∑ x, Ideal.div (Ideal.exp (s x - Finset.fold max (Ideal.ofBits FTy.f32 0xFF800000#32) s Finset.univ))
    (∑ x, Ideal.exp (s x - Finset.fold max (Ideal.ofBits FTy.f32 0xFF800000#32) s Finset.univ)) * v x

theorem floor_bits : Ideal.ofBits FTy.f32 0xFF800000#32 = ⊥ := by
  simp [Ideal.ofBits, Ideal.ieee]

theorem scale_bits : Ideal.ofBits FTy.f32 1031798784#32 = ((1 / 16 : ℝ) : EReal) := by
  simp [Ideal.ofBits, Ideal.ieee]
  rw [← EReal.coe_mul]; norm_num

/-- A positive real factor goes into a sum of extended reals. -/
theorem sum_scale {ι : Type} (s : Finset ι) (f : ι → EReal) (r : ℝ) (hr : 0 ≤ r) : (∑ x ∈ s, f x) * (r : EReal) = ∑ x ∈ s, f x * (r : EReal) := by
  classical
  induction s using Finset.induction_on with
  | empty => simp
  | insert a s h ih =>
    rw [Finset.sum_insert h, Finset.sum_insert h, ← ih, mul_comm, EReal.left_distrib_of_nonneg_of_ne_top (EReal.coe_nonneg.mpr hr) (EReal.coe_ne_top r),
      mul_comm (r : EReal) (f a), mul_comm (r : EReal)]

/-- One head's attention over its memories, at one query row and one column of the values. -/
abbrev headAt (q : Vec Ideal S1x512x256 .f32) (k v : Vec Ideal S1x1x256x256 .f32) (y : S1x512x256.Idx) : EReal :=
  att (fun x => (∑ d, q (ix3 0 (y 1) d) * k (ix4 0 0 x d)) * Ideal.ofBits FTy.f32 1031798784#32) fun x => v (ix4 0 0 x (y 2))

theorem scaled (q : Vec Ideal S1x512x256 .f32) (k : Vec Ideal S1x1x256x256 .f32) (a : Fin 512) (x : Fin 256) :
    (∑ d, q (ix3 0 a d) * k (ix4 0 0 x d)) * Ideal.ofBits FTy.f32 1031798784#32 = ∑ d, q (ix3 0 a d) * Ideal.ofBits FTy.f32 1031798784#32 * k (ix4 0 0 x d) := by
  rw [scale_bits, sum_scale _ _ _ (by norm_num)]
  exact Finset.sum_congr rfl fun d _ => mul_right_comm _ _ _

theorem heads (q : Vec Ideal S1x512x256 .f32) (k v : Vec Ideal S1x1x256x256 .f32) (y : S1x512x256.Idx) :
    k0_pay2 (F := Ideal) q k v y = headAt q k v y ∧ k0_pay4 (F := Ideal) (k0_pay3 q) k v y = headAt q k v y
      ∧ k0_pay6 (F := Ideal) (k0_pay5 q k) v y = headAt q k v y ∧ k0_pay1 (F := Ideal) (k0_pay7 q k) (k0_pay8 v) y = headAt q k v y := by
  unfold headAt att
  refine ⟨?_, ?_, ?_, ?_⟩ <;> pointwise [k0_pay1, k0_pay2, k0_pay3, k0_pay4, k0_pay5, k0_pay6, k0_pay7, k0_pay8]

open MemAttnRefIdeal.Read in
theorem ref_score (a : (⟨S2x4096x19584, .f32⟩ : BufTy).Contents (Elt Ideal)) (b : (⟨S512x2048, .f32⟩ : BufTy).Contents (Elt Ideal)) (n : Fin 2) (h : Fin 4) (q : Fin 4096) (k : Fin 256) :
    val_main_v8 (F := Ideal) a b (ix4 n h q k) = ∑ d : Fin 256, a (ix3 n q ⟨10240 + (h.val * 256 + d.val), by omega⟩) * Ideal.ofBits FTy.f32 1031798784#32
      * b (ix2 ⟨n.val * 256 + k.val, by omega⟩ ⟨h.val * 256 + d.val, by omega⟩) := by
  pointwise [val_main_v8, val_main_v7, val_main_v5, val_main_v4, val_main_v3, val_main_v2, val_main_v1, val_main_v0, val_main_cst]

open MemAttnRefIdeal MemAttnRefIdeal.Read in
theorem ref_max (hr : MemAttnRefIdeal.S2x4x4096x256.ReducesTo [3] MemAttnRefIdeal.S2x4x4096) (hu : 0 < MemAttnRefIdeal.S_.numel) (g : (⟨MemAttnRefIdeal.S2x4x4096x256, .f32⟩ : BufTy).Contents (Elt Ideal)) (n : Fin 2) (h : Fin 4) (q : Fin 4096) :
    Host.reduce FloatOps.maximumf g (val_main_cst_0 (F := Ideal)) hr hu (ix3 n h q) =
      Finset.fold max (Ideal.ofBits FTy.f32 0xFF800000#32) (fun x => g (ix4 n h q x)) Finset.univ := by
  pointwise [val_main_cst_0]

open MemAttnRefIdeal.Read in
theorem ref_exp (a : (⟨S2x4096x19584, .f32⟩ : BufTy).Contents (Elt Ideal)) (b : (⟨S512x2048, .f32⟩ : BufTy).Contents (Elt Ideal)) (n : Fin 2) (h : Fin 4) (q : Fin 4096) (k : Fin 256) :
    val_main_v15 (F := Ideal) a b (ix4 n h q k) = Ideal.exp (val_main_v8 (F := Ideal) a b (ix4 n h q k)
      - Finset.fold max (Ideal.ofBits FTy.f32 0xFF800000#32) (fun x => val_main_v8 (F := Ideal) a b (ix4 n h q x)) Finset.univ) := by
  rw [val_main_v15_apply, val_main_v14_apply, val_main_v13_apply, val_main_v12_apply, val_main_v11_apply, val_main_v10_apply]
  have e : val_main_v9 (F := Ideal) a b (ix3 n h q) = _ := ref_max _ _ (val_main_v8 (F := Ideal) a b) n h q
  have e1 : idx_main_v12 (idx_main_v13 (ix4 n h q k)) = ix3 n h q := by
    funext a; match a with | ⟨0, _⟩ => rfl | ⟨1, _⟩ => rfl | ⟨2, _⟩ => rfl
  rw [e1, e]
  show Ideal.exp (_ - max (Ideal.ofBits FTy.f32 0xFF800000#32) _) = _
  rw [floor_bits, max_eq_right bot_le]

open MemAttnRefIdeal.Read in
theorem ref (a : (⟨S2x4096x19584, .f32⟩ : BufTy).Contents (Elt Ideal)) (b : (⟨S512x2048, .f32⟩ : BufTy).Contents (Elt Ideal)) (i : S2x4096x1024.Idx) (h : Fin 4) (hh : (i 2).val / 256 = h.val) :
    val_main_v24 (F := Ideal) a b i = att (fun x => val_main_v8 (F := Ideal) a b (ix4 (i 0) h (i 1) x))
      fun x => b (ix2 ⟨(i 0).val * 256 + x.val, by have : (i 0).val < 2 := (i 0).isLt; omega⟩ ⟨1024 + (i 2).val, by have : (i 2).val < 1024 := (i 2).isLt; omega⟩) := by
  rw [show h = ⟨(i 2).val / 256, by have : (i 2).val < 1024 := (i 2).isLt; omega⟩  from Fin.ext hh.symm]
  have e : ∀ k, val_main_v15 (F := Ideal) a b (ix4 (i 0) ⟨(i 2).val / 256, by have : (i 2).val < 1024 := (i 2).isLt; omega⟩ (i 1) k) = _ := fun k => ref_exp a b _ _ _ k
  unfold att
  simp only [← e]
  pointwise [val_main_v24, val_main_v23, val_main_v22, val_main_v21, val_main_v20, val_main_v19, val_main_v18, val_main_v17, val_main_v16, val_main_v6, val_main_v4, val_main_cst_2]
  exact Finset.sum_congr rfl fun x _ => mul_comm _ _

theorem idx : ∀ t : Fin cfg0.N, win0_0.index t = ![t.val / 8, t.val % 8, 10] ∧ win0_1.index t = ![0, t.val / 8, 0, 0] ∧ win0_2.index t = ![0, t.val / 8, 0, 1]
    ∧ win0_3.index t = ![t.val / 8, t.val % 8, 0] :=
  (by decide +kernel : ∀ t : Fin grid0.N, _)

theorem readQ (c : Dev nD) (t : Fin cfg0.N) (x : S1x512x1024.Idx) (j : S2x4096x19584.Idx) (h0 : (j 0).val = t.val / 8)
    (h1 : (j 1).val = t.val % 8 * 512 + (x 1).val) (h2 : (j 2).val = 10240 + (x 2).val) : X0_0 m c t x = m ((c : Thread nD τ).loc main_arg0) j := by
  have e := (idx t).1
  have hx : (x 0).val < 1 := (x 0).isLt
  unfold X0_0 Pipeline.Window.fill
  rw [dif_pos (moved0_0 t x)]
  show m ((c : Thread nD τ).loc main_arg0) (((cfg0.win 0).blk t).view.emb fun a => ⟨(x a).val, _⟩) = _
  refine congrArg _ (funext fun a => match a with | ⟨0, _⟩ => Fin.ext (Eq.trans ?_ h0.symm) | ⟨1, _⟩ => Fin.ext (Eq.trans ?_ h1.symm) | ⟨2, _⟩ => Fin.ext (Eq.trans ?_ h2.symm))
  · show win0_0.index t 0 * 1 + 1 * (x 0).val = _
    rw [e]; simp <;> omega
  · show win0_0.index t 1 * 512 + 1 * (x 1).val = _
    rw [e]; simp
  · show win0_0.index t 2 * 1024 + 1 * (x 2).val = _
    rw [e]; simp

theorem readK (c : Dev nD) (t : Fin cfg0.N) (x : S1x1x256x1024.Idx) (j : S512x2048.Idx) (h0 : (j 0).val = t.val / 8 * 256 + (x 2).val)
    (h1 : (j 1).val = (x 3).val) : iblk m c 1 t x = m ((c : Thread nD τ).loc main_arg1) j := by
  have e := idx t
  blk_point [iblk, V, e]

theorem readV (c : Dev nD) (t : Fin cfg0.N) (x : S1x1x256x1024.Idx) (j : S512x2048.Idx) (h0 : (j 0).val = t.val / 8 * 256 + (x 2).val)
    (h1 : (j 1).val = 1024 + (x 3).val) : iblk m c 2 t x = m ((c : Thread nD τ).loc main_arg1) j := by
  have e := idx t
  blk_point [iblk, V, e]

/-- A head's columns of a block of queries. -/
theorem ldQ (X : S1x512x1024.Idx → Elt Ideal .f32) (o : ℕ) (h) (z : S1x512x256.Idx) (z' : S1x512x1024.Idx) (e1 : (z' 1).val = (z 1).val)
    (e2 : (z' 2).val = o + (z 2).val) : View.ld (Val := Elt Ideal) (e' := .f32) X (Rect.unit (s := S1x512x1024) ![0, 0, o] ![1, 512, 256] h) z = X z' := by
  have hz : (z 0).val < 1 := (z 0).isLt
  have hz' : (z' 0).val < 1 := (z' 0).isLt
  refine congrArg X (funext fun a => match a with | ⟨0, _⟩ => Fin.ext ?_ | ⟨1, _⟩ => Fin.ext ?_ | ⟨2, _⟩ => Fin.ext ?_)
  · show 0 + 1 * (z 0).val = (z' 0).val; omega
  · show 0 + 1 * (z 1).val = (z' 1).val; omega
  · show o + 1 * (z 2).val = (z' 2).val; omega

/-- A head's columns of a block of keys or of values. -/
theorem ldK (X : S1x1x256x1024.Idx → Elt Ideal .f32) (o : ℕ) (h) (z : S1x1x256x256.Idx) (z' : S1x1x256x1024.Idx) (e1 : (z' 2).val = (z 2).val)
    (e2 : (z' 3).val = o + (z 3).val) : View.ld (Val := Elt Ideal) (e' := .f32) X (Rect.unit (s := S1x1x256x1024) ![0, 0, 0, o] ![1, 1, 256, 256] h) z = X z' := by
  have hz : (z 0).val < 1 := (z 0).isLt
  have hz' : (z' 0).val < 1 := (z' 0).isLt
  have hy : (z 1).val < 1 := (z 1).isLt
  have hy' : (z' 1).val < 1 := (z' 1).isLt
  refine congrArg X (funext fun a => match a with | ⟨0, _⟩ => Fin.ext ?_ | ⟨1, _⟩ => Fin.ext ?_ | ⟨2, _⟩ => Fin.ext ?_ | ⟨3, _⟩ => Fin.ext ?_)
  · show 0 + 1 * (z 0).val = (z' 0).val; omega
  · show 0 + 1 * (z 1).val = (z' 1).val; omega
  · show 0 + 1 * (z 2).val = (z' 2).val; omega
  · show o + 1 * (z 3).val = (z' 3).val; omega

open MemAttnRefIdeal.Read in
/-- A head's block of the kernel's result, from what its blocks of the queries and of the memories read. -/
theorem piece (c : Dev nD) (t : Fin cfg0.N) (g : Fin 4) (o : ℕ) (ho : o = g.val * 256) (q : Vec Ideal S1x512x256 .f32) (k v : Vec Ideal S1x1x256x256 .f32)
    (hq : ∀ z : S1x512x256.Idx, ∀ z' : S1x512x1024.Idx, (z' 1).val = (z 1).val → (z' 2).val = o + (z 2).val → q z = X0_0 m c t z')
    (hk : ∀ z : S1x1x256x256.Idx, ∀ z' : S1x1x256x1024.Idx, (z' 2).val = (z 2).val → (z' 3).val = o + (z 3).val → k z = iblk m c 1 t z')
    (hv : ∀ z : S1x1x256x256.Idx, ∀ z' : S1x1x256x1024.Idx, (z' 2).val = (z 2).val → (z' 3).val = o + (z 3).val → v z = iblk m c 2 t z')
    (x : S1x512x256.Idx) (i : S2x4096x1024.Idx) (i0 : (i 0).val = t.val / 8) (i1 : (i 1).val = t.val % 8 * 512 + (x 1).val)
    (i2 : (i 2).val = o + (x 2).val) :
    headAt q k v x = val_main_v24 (F := Ideal) (m ((c : Thread nD τ).loc main_arg0)) (m ((c : Thread nD τ).loc main_arg1)) i := by
  subst ho
  have x2 : (x 2).val < 256 := (x 2).isLt
  have hg := g.isLt
  rw [ref _ _ i g (by omega)]
  refine congrArg₂ att (funext fun n => ?_) (funext fun n => ?_)
  · refine (scaled q k (x 1) n).trans (Eq.trans ?_ (ref_score _ _ (i 0) g (i 1) n).symm)
    refine Finset.sum_congr rfl fun d _ => congrArg₂ (fun u w => u * Ideal.ofBits FTy.f32 1031798784#32 * w) ?_ ?_
    · exact (hq (ix3 0 (x 1) d) (ix3 0 (x 1) ⟨g.val * 256 + d.val, by omega⟩) rfl rfl).trans
        (readQ m c t _ _ i0 i1 rfl)
    · refine (hk (ix4 0 0 n d) (ix4 0 0 n ⟨g.val * 256 + d.val, by omega⟩) rfl rfl).trans
        (readK m c t _ _ ?_ rfl)
      show (i 0).val * 256 + n.val = _
      rw [i0]; rfl
  · refine (hv (ix4 0 0 n (x 2)) (ix4 0 0 n ⟨g.val * 256 + (x 2).val, by omega⟩) rfl rfl).trans
        (readV m c t _ _ ?_ ?_)
    · show (i 0).val * 256 + n.val = _
      rw [i0]; rfl
    · show 1024 + (i 2).val = _
      rw [i2]; rfl

theorem final (c : Dev nD) : (dats m 0 c).arrAt 3 (cfgs 0).N =
    MemAttnRefIdeal.Read.val_main_v24 (F := Ideal) (m ((c : Thread nD τ).loc main_arg0)) (m ((c : Thread nD τ).loc main_arg1)) := by
  refine (dats m 0 c).arrAt_eq_of_covers 3 _ (by decide +kernel) fun t _ y => ?_
  have e := idx t
  obtain ⟨i, hi⟩ : ∃ i, i = ((cfg0.win 3).blk t).view.emb y := ⟨_, rfl⟩
  have i0 : (i 0).val = t.val / 8 := by rw [hi]; blk_simp [e]
  have i1 : (i 1).val = t.val % 8 * 512 + (y 1).val := by rw [hi]; blk_simp [e]
  have i2 : (i 2).val = (y 2).val := by rw [hi]; blk_simp [e]
  rw [← hi]
  blk_simp
  rw [after0_3]
  unfold outsAt0 out0_A_3
  frame_out
  canon_tiles x h
  · exact ((heads _ _ _ x).2.2.2).trans (piece m c t 3 768 rfl _ _ _ (fun z z' a b => ldQ _ _ _ z z' a b) (fun z z' a b => ldK _ _ _ z z' a b) (fun z z' a b => ldK _ _ _ z z' a b) x i i0 (by omega) (by rw [i2]; exact h2))
  · exact ((heads _ _ _ x).2.2.1).trans (piece m c t 2 512 rfl _ _ _ (fun z z' a b => ldQ _ _ _ z z' a b) (fun z z' a b => ldK _ _ _ z z' a b) (fun z z' a b => ldK _ _ _ z z' a b) x i i0 (by omega) (by rw [i2]; exact h2))
  · exact ((heads _ _ _ x).2.1).trans (piece m c t 1 256 rfl _ _ _ (fun z z' a b => ldQ _ _ _ z z' a b) (fun z z' a b => ldK _ _ _ z z' a b) (fun z z' a b => ldK _ _ _ z z' a b) x i i0 (by omega) (by rw [i2]; exact h2))
  · exact ((heads _ _ _ x).1).trans (piece m c t 0 0 rfl _ _ _ (fun z z' a b => ldQ _ _ _ z z' a b) (fun z z' a b => ldK _ _ _ z z' a b) (fun z z' a b => ldK _ _ _ z z' a b) x i i0 (by omega) (by rw [i2]; exact h2.trans (Nat.zero_add _).symm))

end Cert.MemAttnIdeal.Tiles
-- ==== Proof.MemAttnClaim.lean ====
module

public import proofs.«01_k».proof.Defs
public import proofs.«01_k».proof.Proof.Gen.MemAttn
public import proofs.«01_k».proof.Proof.Gen.MemAttnIdeal
public import proofs.«01_k».proof.Proof.Gen.MemAttnIdeal.Frame
public import proofs.«01_k».proof.Proof.Gen.MemAttnRefIdeal.Run
public import proofs.«01_k».proof.Proof.MemAttnValue
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem refFrameMemAttn : quiescent_MemAttnRefIdeal (hMemAttnRefIdeal := Cert.MemAttnRefIdeal.Gen.facts) := fun m ρ _ =>
  (θ_run Cert.MemAttnRefIdeal.defs _ _).mono (fun r h => ⟨fun c => (h c).2, sem_eq_zero_of_no_sems (by decide) r.2⟩)
    (Cert.MemAttnRefIdeal.Value.run (F := Ideal) m ρ)

set_option maxHeartbeats 1600000 in
theorem valueMemAttn : algebraic_MemAttnIdeal_MemAttnRefIdeal (hMemAttnIdeal := Cert.MemAttnIdeal.Gen.facts) (hMemAttnRefIdeal := Cert.MemAttnRefIdeal.Gen.facts) := by
  pair_intro
  · run_from Cert.MemAttnIdeal.Gen.run_main m g
  · hlo_run
    · exact (Cert.MemAttnIdeal.Tiles.final m c).symm

end Cert.Proof

end
-- ==== Proof.Scan.lean ====
module

public import Idealize.ShloMosaic.Lib.Pointwise

@[expose] public section

noncomputable section

namespace Cert.Scan

open Idealize.ShloMosaic

/-- The sum of the last `s` entries up to entry `j`. -/
def win (s : ℕ) (f : ℕ → EReal) (j : ℕ) : EReal := ∑ i ∈ Finset.range s, if i ≤ j then f (j - i) else 0

theorem win_one (f : ℕ → EReal) (j : ℕ) : win 1 f j = f j := by simp [win]

/-- A doubling step: a window's sum and the sum of the window before it. -/
theorem win_double (s : ℕ) (f : ℕ → EReal) (j : ℕ) : win s f j + (if s ≤ j then win s f (j - s) else 0) = win (s + s) f j := by
  unfold win
  rw [Finset.sum_range_add]
  refine congrArg _ ?_
  by_cases h : s ≤ j
  · rw [if_pos h]
    refine Finset.sum_congr rfl fun i _ => ?_
    by_cases hi : i ≤ j - s
    · rw [if_pos hi, if_pos (by omega), Nat.sub_sub]
    · rw [if_neg hi, if_neg (by omega)]
  · rw [if_neg h]
    exact (Finset.sum_eq_zero fun i _ => if_neg (by omega)).symm

/-- A fold over the positions of a one-axis window is a sum. -/
theorem fold_sum {n : ℕ} (g : Fin n → EReal) : ∀ a : EReal, (List.finRange n).foldl (fun r i => r + g i) a = a + ∑ i, g i := by
  have h : ∀ (l : List (Fin n)) (a : EReal), l.foldl (fun r i => r + g i) a = a + (l.map g).sum := by
    intro l
    induction l with
    | nil => intro a; simp
    | cons x l ih => intro a; simp [ih, add_assoc]
  intro a
  rw [h, ← List.ofFn_eq_map, List.sum_ofFn]

theorem log_near {e : EReal} (h0 : 0 ≤ e) (h1 : e ≤ 1) : ∃ r : ℝ, Ideal.log1p e = (r : EReal) := by
  induction e with
  | bot => exact absurd h0 (by simp)
  | top => exact absurd (top_le_iff.mp h1) (by rw [← EReal.coe_one]; exact EReal.coe_ne_top 1)
  | coe r =>
    refine ⟨Real.log (1 + r), ?_⟩
    have hr : 0 ≤ r := EReal.coe_nonneg.mp h0
    unfold Ideal.log1p
    rw [← EReal.coe_one, ← EReal.coe_add]
    show (if 1 + r ≤ 0 then ⊥ else (Real.log (1 + r) : EReal)) = _
    rw [if_neg (by linarith)]

theorem exp_near {q : EReal} (h : q ≤ 0) : 0 ≤ Ideal.exp q ∧ Ideal.exp q ≤ 1 := by
  induction q with
  | bot => exact ⟨le_refl _, zero_le_one⟩
  | top => exact absurd (top_le_iff.mp h) (by rw [← EReal.coe_zero]; exact EReal.coe_ne_top 0)
  | coe r =>
    have hr : r ≤ 0 := by exact_mod_cast h
    show 0 ≤ ((Real.exp r : ℝ) : EReal) ∧ ((Real.exp r : ℝ) : EReal) ≤ 1
    refine ⟨EReal.coe_nonneg.mpr (Real.exp_pos r).le, ?_⟩
    rw [← EReal.coe_one]
    exact EReal.coe_le_coe_iff.mpr (Real.exp_le_one_iff.mpr hr)

theorem neg_side (x : EReal) : min x 0 = -max (-x) 0 := by
  rcases le_total x 0 with h | h
  · have h' : 0 ≤ -x := by simpa using EReal.neg_le_neg_iff.mpr h
    rw [min_eq_left h, max_eq_left h', neg_neg]
  · have h' : -x ≤ 0 := by simpa using EReal.neg_le_neg_iff.mpr h
    rw [min_eq_right h, max_eq_right h', neg_zero]

/-- The logarithm of the logistic function, as the kernel writes it and as the reference does, at the infinities too. -/
theorem log_sigmoid (x : EReal) : min x 0 - Ideal.log1p (Ideal.exp (0 - max x (-x))) = -(max (-x) 0 + Ideal.log1p (Ideal.exp (-max (-x) (- -x)))) := by
  have e : 0 - max x (-x) = -max (-x) (- -x) := by rw [zero_sub, neg_neg, max_comm]
  have hq : -max (-x) (- -x) ≤ 0 := by
    rw [neg_neg]
    refine EReal.neg_le_of_neg_le ?_
    rw [neg_zero]
    rcases le_total x 0 with h | h
    · exact le_max_of_le_left (by simpa using EReal.neg_le_neg_iff.mpr h)
    · exact le_max_of_le_right h
  obtain ⟨h0, h1⟩ := exp_near hq
  obtain ⟨r, hr⟩ := log_near h0 h1
  rw [e, hr, EReal.neg_add (Or.inr (EReal.coe_ne_top r)) (Or.inr (EReal.coe_ne_bot r)), neg_side]

end Cert.Scan
-- ==== Proof.GateScan.lean ====
module

public import proofs.«01_k».proof.Proof.Gen.FoxGateIdeal.Skeleton
public import proofs.«01_k».proof.Proof.Scan
public import Idealize.ShloMosaic.Lib.Pointwise
public import Idealize.ShloMosaic.Lib.WordCmp

@[expose] public section

set_option maxRecDepth 16384

noncomputable section

namespace Cert.FoxGateIdeal.Tiles

open Cert.FoxGateIdeal Cert.FoxGateIdeal.Gen Idealize.ShloMosaic
open Cert.Scan

/-- One doubling step of the kernel's scan. -/
def dstep (b : BitVec 32) (c : FVec Ideal S8x4096 .f32) : FVec Ideal S8x4096 .f32 :=
  addf c (select (cmpi .sge (iota .tc S8x4096 32 [1] iota_S8x4096_d1_w32) (broadcast S8x4096 b)) (dynamicRotate 1 b none c rotates_S8x4096_d1) (broadcast S8x4096 (Scalar.ofBits .f32 0x00000000#32)))

theorem dstep_apply (b : BitVec 32) (hb : b.toNat < 4096) (c : FVec Ideal S8x4096 .f32) (i : S8x4096.Idx) :
    dstep b c i = c i + if h : b.toNat ≤ (i 1).val then c (ix2 (i 0) ⟨(i 1).val - b.toNat, by have : (i 1).val < 4096 := (i 1).isLt; omega⟩) else 0 := by
  have hi : (i 1).val < 4096 := (i 1).isLt
  pointwise [dstep]
  refine congrArg _ ?_
  have hj : (BitVec.ofNat 32 (i 1).val).toNat = (i 1).val := by rw [BitVec.toNat_ofNat]; omega
  rw [WordCmp.cmpi_sge_of_lt (by rw [hj]; omega) (by omega), hj]
  by_cases h : b.toNat ≤ (i 1).val
  · rw [dif_pos h, decide_eq_true h]
    refine congrArg c (congrArg (ix2 (i 0)) (Fin.ext ?_))
    show ((i 1).val + 4096 - b.toNat % 4096) % 4096 = (i 1).val - b.toNat
    omega
  · rw [dif_neg h, decide_eq_false h]
    rfl

theorem scan (v0 : Vec Ideal S1x8x4096 .f32) (v2 : Vec Ideal S8x1 .f32) :
    k0_pay1 (iota .tc S8x4096 32 [1] iota_S8x4096_d1_w32) (k0_pay6 (iota .tc S8x4096 32 [1] iota_S8x4096_d1_w32) (k0_pay4 v0 v2) k0_pay5) =
      shapeCast S1x8x4096 (dstep 2048#32 (dstep 1024#32 (dstep 512#32 (dstep 256#32 (dstep 128#32 (dstep 64#32 (dstep 32#32 (dstep 16#32 (dstep 8#32 (dstep 4#32 (dstep 2#32 (dstep 1#32 (k0_pay2 v0 v2)))))))))))))
        shapeCasts_S8x4096_S1x8x4096 := rfl

/-- The row `r` of a block, as a function of the entry's number. -/
def rowOf (l : FVec Ideal S8x4096 .f32) (r : Fin 8) (n : ℕ) : EReal := if h : n < 4096 then l (ix2 r ⟨n, h⟩) else 0

theorem dstep_win (l c : FVec Ideal S8x4096 .f32) (b : BitVec 32) (s : ℕ) (hs : b.toNat = s) (hb : s < 4096)
    (hc : ∀ r j, c (ix2 r j) = win s (rowOf l r) j.val) (r : Fin 8) (j : Fin 4096) : dstep b c (ix2 r j) = win (s + s) (rowOf l r) j.val := by
  subst hs
  rw [dstep_apply b hb, ← win_double, hc]
  refine congrArg _ ?_
  by_cases h : b.toNat ≤ j.val
  · rw [dif_pos (show b.toNat ≤ ((ix2 r j : S8x4096.Idx) 1).val from h), if_pos h]; exact hc _ _
  · rw [dif_neg (show ¬ b.toNat ≤ ((ix2 r j : S8x4096.Idx) 1).val from h), if_neg h]

theorem scanned (l : FVec Ideal S8x4096 .f32) (r : Fin 8) (j : Fin 4096) :
    dstep 2048#32 (dstep 1024#32 (dstep 512#32 (dstep 256#32 (dstep 128#32 (dstep 64#32 (dstep 32#32 (dstep 16#32 (dstep 8#32 (dstep 4#32 (dstep 2#32 (dstep 1#32 l))))))))))) (ix2 r j)
      = win 4096 (rowOf l r) j.val := by
  have h0 : ∀ r j, l (ix2 r j) = win 1 (rowOf l r) j.val := fun r j => by rw [win_one]; unfold rowOf; rw [dif_pos j.isLt]
  have h1 := dstep_win l _ 1#32 1 rfl (by decide) h0
  have h2 := dstep_win l _ 2#32 2 rfl (by decide) h1
  have h3 := dstep_win l _ 4#32 4 rfl (by decide) h2
  have h4 := dstep_win l _ 8#32 8 rfl (by decide) h3
  have h5 := dstep_win l _ 16#32 16 rfl (by decide) h4
  have h6 := dstep_win l _ 32#32 32 rfl (by decide) h5
  have h7 := dstep_win l _ 64#32 64 rfl (by decide) h6
  have h8 := dstep_win l _ 128#32 128 rfl (by decide) h7
  have h9 := dstep_win l _ 256#32 256 rfl (by decide) h8
  have h10 := dstep_win l _ 512#32 512 rfl (by decide) h9
  have h11 := dstep_win l _ 1024#32 1024 rfl (by decide) h10
  exact dstep_win l _ 2048#32 2048 rfl (by decide) h11 r j

theorem gated (v0 : Vec Ideal S1x8x4096 .f32) (v2 : Vec Ideal S8x1 .f32) (r : Fin 8) (j : Fin 4096) :
    k0_pay2 (F := Ideal) v0 v2 (ix2 r j) =
      -(max (-(v0 (ix3 0 r j) + v2 (ix2 r 0))) 0 + Ideal.log1p (Ideal.exp (-max (-(v0 (ix3 0 r j) + v2 (ix2 r 0))) (- -(v0 (ix3 0 r j) + v2 (ix2 r 0)))))) := by
  rw [← log_sigmoid]
  pointwise [k0_pay2]
  rfl

end Cert.FoxGateIdeal.Tiles
-- ==== Proof.Cumsum.lean ====
module

public import proofs.«01_k».proof.Proof.Scan
public import Idealize.ShloMosaic.Lib.Pointwise

@[expose] public section

noncomputable section

namespace Cert.Scan

open Idealize.ShloMosaic

/-- A batch's gates, entry by entry along the sequence. -/
def column (x : FVec Ideal ⟨3, ![2, 4096, 8]⟩ .f32) (b : Fin 2) (r : Fin 8) (n : ℕ) : EReal := if h : n < 4096 then x (ix3 b ⟨n, h⟩ r) else 0

theorem fold_box {W : Shape} (g : W.Idx → EReal) (a : EReal) : (List.finRange W.numel).foldl (fun r n => r + g (W.rowMajor.symm n)) a = a + ∑ w, g w :=
  (fold_sum _ a).trans (congrArg _ (Equiv.sum_comp W.rowMajor.symm g))

/-- A box with one long axis is summed along that axis. -/
theorem sum_axis {n : ℕ} (g : (⟨3, ![1, n, 1]⟩ : Shape).Idx → EReal) : ∑ w, g w = ∑ i : Fin n, g (ix3 0 i 0) := by
  refine (Function.Bijective.sum_comp (e := fun i : Fin n => (ix3 0 i 0 : (⟨3, ![1, n, 1]⟩ : Shape).Idx)) ⟨fun i j e => congrFun e 1, fun w => ⟨w 1, ?_⟩⟩ g).symm
  funext a
  match a with
  | 0 => exact (Subsingleton.elim (α := Fin 1) _ _)
  | 1 => rfl
  | 2 => exact (Subsingleton.elim (α := Fin 1) _ _)

/-- The host's window sum, as the padding value and a sum over the window's places. -/
theorem window_sum {s t u : Shape} (window strides lo hi : Fin s.rank → ℕ) (x : FVec Ideal s .f32) (v : FVec Ideal u .f32) (h : s.ReduceWindows window strides lo hi t) (hu : 0 < u.numel) (j : t.Idx) :
    Host.reduceWindowAdd window strides lo hi x v h hu j = v (Shape.Idx.first hu) + ∑ w : (⟨s.rank, window⟩ : Shape).Idx,
      if hin : ∀ a, lo a ≤ (j (a.cast h.1.symm)).val * strides a + (w a).val ∧ (j (a.cast h.1.symm)).val * strides a + (w a).val - lo a < s.size a
        then x (fun a => ⟨(j (a.cast h.1.symm)).val * strides a + (w a).val - lo a, (hin a).2⟩) else v (Shape.Idx.first hu) := by
  unfold Host.reduceWindowAdd
  show Ideal.hostReduceWindowAdd _ _ _ _ _ _ _ _ = _
  unfold Ideal.hostReduceWindowAdd Host.reduceWindow
  dsimp only
  refine Eq.trans ?_ (fold_box (W := ⟨s.rank, window⟩) (fun w => if hin : ∀ a, lo a ≤ (j (a.cast h.1.symm)).val * strides a + (w a).val ∧ (j (a.cast h.1.symm)).val * strides a + (w a).val - lo a < s.size a
        then x (fun a => ⟨(j (a.cast h.1.symm)).val * strides a + (w a).val - lo a, (hin a).2⟩) else v (Shape.Idx.first hu)) (v (Shape.Idx.first hu)))
  refine congrFun (congrFun (congrArg List.foldl ?_) _) _
  funext r n
  refine congrArg _ ?_
  congr

/-- The host's cumulative sum along the sequence is the sum of the last 4096 entries. -/
theorem cumsum (x : FVec Ideal ⟨3, ![2, 4096, 8]⟩ .f32) (u : (⟨0, ![]⟩ : Shape).Idx → Ideal .f32) (hu : ∀ i, u i = 0) (h) (h') (b : Fin 2) (j : Fin 4096) (r : Fin 8) :
    Host.reduceWindowAdd (t := ⟨3, ![2, 4096, 8]⟩) (u := ⟨0, ![]⟩) ![1, 4096, 1] ![1, 1, 1] ![0, 4095, 0] ![0, 0, 0] x u h h' (ix3 b j r) = win 4096 (column x b r) j.val := by
  rw [window_sum]
  rw [hu, zero_add]
  refine (sum_axis _).trans ?_
  unfold win
  rw [← Finset.sum_range_reflect, ← Fin.sum_univ_eq_sum_range (fun i => if 4096 - 1 - i ≤ j.val then column x b r (j.val - (4096 - 1 - i)) else 0)]
  refine Finset.sum_congr rfl fun i _ => ?_
  have hi := i.isLt
  have hj := j.isLt
  show (if hin : _ then _ else _) = _
  by_cases c : 4096 - 1 - i.val ≤ j.val
  · have hin : ∀ a : Fin 3, (![0, 4095, 0] : Fin 3 → ℕ) a ≤ ((ix3 b j r : (⟨3, ![2, 4096, 8]⟩ : Shape).Idx) a).val * (![1, 1, 1] : Fin 3 → ℕ) a + ((ix3 0 i 0 : (⟨3, ![1, 4096, 1]⟩ : Shape).Idx) a).val ∧
        ((ix3 b j r : (⟨3, ![2, 4096, 8]⟩ : Shape).Idx) a).val * (![1, 1, 1] : Fin 3 → ℕ) a + ((ix3 0 i 0 : (⟨3, ![1, 4096, 1]⟩ : Shape).Idx) a).val - (![0, 4095, 0] : Fin 3 → ℕ) a < (![2, 4096, 8] : Fin 3 → ℕ) a := by
      intro a
      match a with
      | 0 => show 0 ≤ b.val * 1 + 0 ∧ b.val * 1 + 0 - 0 < 2; omega
      | 1 => show 4095 ≤ j.val * 1 + i.val ∧ j.val * 1 + i.val - 4095 < 4096; omega
      | 2 => show 0 ≤ r.val * 1 + 0 ∧ r.val * 1 + 0 - 0 < 8; omega
    rw [if_pos c]
    refine (dif_pos hin).trans ?_
    unfold column
    rw [dif_pos (by omega)]
    refine congrArg x (funext fun a => Fin.ext ?_)
    match a with
    | 0 => show b.val * 1 + 0 - 0 = b.val; omega
    | 1 => show j.val * 1 + i.val - 4095 = j.val - (4096 - 1 - i.val); omega
    | 2 => show r.val * 1 + 0 - 0 = r.val; omega
  · rw [if_neg c]
    refine dif_neg fun hin => c ?_
    have := (hin 1).1
    change 4095 ≤ j.val * 1 + i.val at this
    omega

end Cert.Scan
-- ==== Proof.FoxGateValue.lean ====
module

public import proofs.«01_k».proof.Proof.Gen.FoxGateIdeal.Value
public import proofs.«01_k».proof.Proof.Gen.FoxGateRefIdeal.Run
public import proofs.«01_k».proof.Proof.Gen.FoxGateRefIdeal.Read
public import Idealize.ShloMosaic.Lib.Pipeline.ValueKit
public import Idealize.ShloMosaic.Lib.Pointwise
public import Idealize.ShloMosaic.Lib.Claim
public import proofs.«01_k».proof.Proof.GateScan
public import proofs.«01_k».proof.Proof.Cumsum

@[expose] public section

set_option maxRecDepth 16384

noncomputable section

namespace Cert.FoxGateIdeal.Tiles

open Cert.FoxGateIdeal Cert.FoxGateIdeal.Gen Idealize.ShloMosaic Idealize.ShloMosaic.TcCoe Idealize.SL.Sem
open Idealize.ShloMosaic.Pipeline (Dat)
open Cert.Scan

variable (m : (ℓ : Loc nD τ sig) → Buf (Elt Ideal) ℓ)

theorem idx : ∀ t : Fin cfg0.N, win0_0.index t = ![t.val, 0, 0] ∧ win0_1.index t = ![0, 0] ∧ win0_2.index t = ![t.val, 0, 0] ∧ win0_3.index t = ![t.val, 0, 0] :=
  (by decide +kernel : ∀ t : Fin grid0.N, _)

/-- The reference's gate at the preactivation `x`. -/
def gate (x : EReal) : EReal := -(max (-x) 0 + Ideal.log1p (Ideal.exp (-max (-x) (- -x))))

open FoxGateRefIdeal.Read in
/-- The reference's gates, entry by entry. -/
theorem ref3 (x0 : FVec Ideal S2x4096x8 .f32) (x1 : FVec Ideal S8 .f32) (b : Fin 2) (j : Fin 4096) (r : Fin 8) :
    val_main_v3 (F := Ideal) x0 x1 (ix3 b j r) = gate (x0 (ix3 b j r) + x1 (ix1 r)) := by
  pointwise [val_main_v3, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v2, val_main_v1, val_main_v0]
  unfold gate
  refine congrArg _ ((if_neg fun h => h rfl).trans ?_)
  rfl

/-- The block of the preactivations, entry by entry. -/
theorem blk0 (c : Dev nD) (t : Fin cfg0.N) (b : Fin 2) (hb : b.val = t.val) (r : Fin 8) (j : Fin 4096) :
    iblk m c 0 t (ix3 0 r j) = m ((c : Thread nD τ).loc main_arg0) (ix3 b j r) := by
  have e := idx t
  blk_point [iblk, V, e]

theorem blk1 (c : Dev nD) (t : Fin cfg0.N) (r : Fin 8) :
    iblk m c 1 t (ix2 r 0) = m ((c : Thread nD τ).loc main_arg1) (ix1 r) := by
  have e := idx t
  blk_point [iblk, V, e]

open FoxGateRefIdeal.Read in
/-- The kernel's gates on one block are the reference's gates. -/
theorem gates (c : Dev nD) (t : Fin cfg0.N) (b : Fin 2) (hb : b.val = t.val) (r : Fin 8) (j : Fin 4096) :
    k0_pay2 (F := Ideal) (iblk m c 0 t) (iblk m c 1 t) (ix2 r j) =
      val_main_v3 (F := Ideal) (m ((c : Thread nD τ).loc main_arg0)) (m ((c : Thread nD τ).loc main_arg1)) (ix3 b j r) := by
  rw [gated, ref3, blk0 m c t b hb, blk1 m c t]
  rfl

open FoxGateRefIdeal.Read in
/-- The first result: the gates. -/
theorem final2 (c : Dev nD) : (dats m 0 c).arrAt 2 (cfgs 0).N =
    val_main_v4 (F := Ideal) (m ((c : Thread nD τ).loc main_arg0)) (m ((c : Thread nD τ).loc main_arg1)) := by
  refine (dats m 0 c).arrAt_eq_of_covers 2 _ (by decide +kernel) fun t _ y => ?_
  have e := idx t
  obtain ⟨i, hi⟩ : ∃ i, i = ((cfg0.win 2).blk t).view.emb y := ⟨_, rfl⟩
  have i0 : (i 0).val = t.val := by rw [hi]; blk_simp [e]
  have i1 : i 1 = y 1 := Fin.ext (by rw [hi]; blk_simp [e])
  have i2 : i 2 = y 2 := Fin.ext (by rw [hi]; blk_simp [e])
  rw [← hi]
  blk_simp
  rw [after0_2]
  frame_out
  pointwise [k0_pay3, val_main_v4]
  rw [i1, i2]
  exact gates m c t (i 0) i0 (y 1) (y 2)

open FoxGateRefIdeal.Read in
/-- The reference's running sums, entry by entry. -/
theorem ref5 (x0 : FVec Ideal S2x4096x8 .f32) (x1 : FVec Ideal S8 .f32) (b : Fin 2) (j : Fin 4096) (r : Fin 8) :
    val_main_v5 (F := Ideal) x0 x1 (ix3 b j r) = win 4096 (column (val_main_v3 (F := Ideal) x0 x1) b r) j.val := by
  unfold val_main_v5
  exact cumsum _ _ (fun i => by pointwise [val_main_call1_v0, val_main_call1_cst]) _ _ b j r

open FoxGateRefIdeal.Read in
/-- The second result: the running sums of the gates. -/
theorem final3 (c : Dev nD) : (dats m 0 c).arrAt 3 (cfgs 0).N =
    val_main_v6 (F := Ideal) (m ((c : Thread nD τ).loc main_arg0)) (m ((c : Thread nD τ).loc main_arg1)) := by
  refine (dats m 0 c).arrAt_eq_of_covers 3 _ (by decide +kernel) fun t _ y => ?_
  have e := idx t
  obtain ⟨i, hi⟩ : ∃ i, i = ((cfg0.win 3).blk t).view.emb y := ⟨_, rfl⟩
  have i0 : (i 0).val = t.val := by rw [hi]; blk_simp [e]
  have i1 : i 1 = y 1 := Fin.ext (by rw [hi]; blk_simp [e])
  have i2 : i 2 = y 2 := Fin.ext (by rw [hi]; blk_simp [e])
  rw [← hi]
  blk_simp
  rw [after0_3]
  frame_out
  refine (congrFun (scan (iblk m c 0 t) (iblk m c 1 t)) y).trans ?_
  pointwise [val_main_v6]
  rw [i1, i2]
  refine (scanned (k0_pay2 (iblk m c 0 t) (iblk m c 1 t)) (y 1) (y 2)).trans (Eq.trans ?_ (ref5 _ _ (i 0) (y 2) (y 1)).symm)
  refine congrArg (fun f => win 4096 f (y 2).val) (funext fun n => ?_)
  unfold rowOf column
  by_cases h : n < 4096
  · rw [dif_pos h, dif_pos h]
    exact gates m c t (i 0) i0 (y 1) ⟨n, h⟩
  · rw [dif_neg h, dif_neg h]

end Cert.FoxGateIdeal.Tiles
-- ==== Proof.FoxGateClaim.lean ====
module

public import proofs.«01_k».proof.Defs
public import proofs.«01_k».proof.Proof.Gen.FoxGate
public import proofs.«01_k».proof.Proof.Gen.FoxGateIdeal
public import proofs.«01_k».proof.Proof.Gen.FoxGateIdeal.Frame
public import proofs.«01_k».proof.Proof.Gen.FoxGateRefIdeal.Run
public import proofs.«01_k».proof.Proof.FoxGateValue
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem refFrameFoxGate : quiescent_FoxGateRefIdeal (hFoxGateRefIdeal := Cert.FoxGateRefIdeal.Gen.facts) := fun m ρ _ =>
  (θ_run Cert.FoxGateRefIdeal.defs _ _).mono (fun r h => ⟨fun c => (h c).2.2, sem_eq_zero_of_no_sems (by decide) r.2⟩)
    (Cert.FoxGateRefIdeal.Value.run (F := Ideal) m ρ)

set_option maxHeartbeats 1600000 in
theorem valueFoxGate : algebraic_FoxGateIdeal_FoxGateRefIdeal (hFoxGateIdeal := Cert.FoxGateIdeal.Gen.facts) (hFoxGateRefIdeal := Cert.FoxGateRefIdeal.Gen.facts) := by
  pair_intro
  · run_from Cert.FoxGateIdeal.Gen.run_main m g
  · hlo_run
    · exact (Cert.FoxGateIdeal.Tiles.final2 m c).symm
    · exact (Cert.FoxGateIdeal.Tiles.final3 m c).symm

end Cert.Proof

end
-- ==== Proof.lean ====
/- The certificate of `Cert.Claim`: the frames come from the generated runs, each value claim from the final-array theorem of its own module. -/
module

public import proofs.«01_k».proof.Defs
public import proofs.«01_k».proof.Proof.Gen.Repack.Frame
public import proofs.«01_k».proof.Proof.Gen.RepackIdeal.Frame
public import proofs.«01_k».proof.Proof.Gen.RepackRefIdeal.Run
public import proofs.«01_k».proof.Proof.RepackClaim
public import proofs.«01_k».proof.Proof.Gen.InProj.Frame
public import proofs.«01_k».proof.Proof.Gen.InProjIdeal.Frame
public import proofs.«01_k».proof.Proof.Gen.InProjRefIdeal.Run
public import proofs.«01_k».proof.Proof.InProjClaim
public import proofs.«01_k».proof.Proof.Gen.OutProj.Frame
public import proofs.«01_k».proof.Proof.Gen.OutProjIdeal.Frame
public import proofs.«01_k».proof.Proof.Gen.OutProjRefIdeal.Run
public import proofs.«01_k».proof.Proof.OutProjClaim
public import proofs.«01_k».proof.Proof.Gen.Ff1.Frame
public import proofs.«01_k».proof.Proof.Gen.Ff1Ideal.Frame
public import proofs.«01_k».proof.Proof.Gen.Ff1RefIdeal.Run
public import proofs.«01_k».proof.Proof.Ff1Claim
public import proofs.«01_k».proof.Proof.Gen.Ff2.Frame
public import proofs.«01_k».proof.Proof.Gen.Ff2Ideal.Frame
public import proofs.«01_k».proof.Proof.Gen.Ff2RefIdeal.Run
public import proofs.«01_k».proof.Proof.Ff2Claim
public import proofs.«01_k».proof.Proof.Gen.MemKv.Frame
public import proofs.«01_k».proof.Proof.Gen.MemKvIdeal.Frame
public import proofs.«01_k».proof.Proof.Gen.MemKvRefIdeal.Run
public import proofs.«01_k».proof.Proof.MemKvClaim
public import proofs.«01_k».proof.Proof.Gen.FinalNorm.Frame
public import proofs.«01_k».proof.Proof.Gen.FinalNormIdeal.Frame
public import proofs.«01_k».proof.Proof.Gen.FinalNormRefIdeal.Run
public import proofs.«01_k».proof.Proof.FinalNormClaim
public import proofs.«01_k».proof.Proof.Gen.HeadsOut.Frame
public import proofs.«01_k».proof.Proof.Gen.HeadsOutIdeal.Frame
public import proofs.«01_k».proof.Proof.Gen.HeadsOutRefIdeal.Run
public import proofs.«01_k».proof.Proof.HeadsOutClaim
public import proofs.«01_k».proof.Proof.Gen.Merge.Frame
public import proofs.«01_k».proof.Proof.Gen.MergeIdeal.Frame
public import proofs.«01_k».proof.Proof.Gen.MergeRefIdeal.Run
public import proofs.«01_k».proof.Proof.MergeClaim
public import proofs.«01_k».proof.Proof.Gen.MemAttn.Frame
public import proofs.«01_k».proof.Proof.Gen.MemAttnIdeal.Frame
public import proofs.«01_k».proof.Proof.Gen.MemAttnRefIdeal.Run
public import proofs.«01_k».proof.Proof.MemAttnClaim
public import proofs.«01_k».proof.Proof.Gen.FoxGate.Frame
public import proofs.«01_k».proof.Proof.Gen.FoxGateIdeal.Frame
public import proofs.«01_k».proof.Proof.Gen.FoxGateRefIdeal.Run
public import proofs.«01_k».proof.Proof.FoxGateClaim
public import proofs.«01_k».proof.Proof.Gen.FoxAttn.Frame
public import proofs.«01_k».proof.Proof.Gen.FoxAttnIdeal.Frame
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem claim : Cert.Claim := ⟨Cert.Repack.Gen.facts, Cert.RepackIdeal.Gen.facts, Cert.RepackRefIdeal.Gen.facts, Cert.InProj.Gen.facts, Cert.InProjIdeal.Gen.facts, Cert.InProjRefIdeal.Gen.facts, Cert.OutProj.Gen.facts, Cert.OutProjIdeal.Gen.facts, Cert.OutProjRefIdeal.Gen.facts, Cert.Ff1.Gen.facts, Cert.Ff1Ideal.Gen.facts, Cert.Ff1RefIdeal.Gen.facts, Cert.Ff2.Gen.facts, Cert.Ff2Ideal.Gen.facts, Cert.Ff2RefIdeal.Gen.facts, Cert.MemKv.Gen.facts, Cert.MemKvIdeal.Gen.facts, Cert.MemKvRefIdeal.Gen.facts, Cert.FinalNorm.Gen.facts, Cert.FinalNormIdeal.Gen.facts, Cert.FinalNormRefIdeal.Gen.facts, Cert.HeadsOut.Gen.facts, Cert.HeadsOutIdeal.Gen.facts, Cert.HeadsOutRefIdeal.Gen.facts, Cert.Merge.Gen.facts, Cert.MergeIdeal.Gen.facts, Cert.MergeRefIdeal.Gen.facts, Cert.MemAttn.Gen.facts, Cert.MemAttnIdeal.Gen.facts, Cert.MemAttnRefIdeal.Gen.facts, Cert.FoxGate.Gen.facts, Cert.FoxGateIdeal.Gen.facts, Cert.FoxGateRefIdeal.Gen.facts, Cert.FoxAttn.Gen.facts, Cert.FoxAttnIdeal.Gen.facts,
  fun m ρ _ => Cert.Repack.Gen.frame m ρ,
  fun m ρ _ => Cert.RepackIdeal.Gen.frame m ρ,
  refFrameRepack,
  fun m ρ _ => Cert.InProj.Gen.frame m ρ,
  fun m ρ _ => Cert.InProjIdeal.Gen.frame m ρ,
  refFrameInProj,
  fun m ρ _ => Cert.OutProj.Gen.frame m ρ,
  fun m ρ _ => Cert.OutProjIdeal.Gen.frame m ρ,
  refFrameOutProj,
  fun m ρ _ => Cert.Ff1.Gen.frame m ρ,
  fun m ρ _ => Cert.Ff1Ideal.Gen.frame m ρ,
  refFrameFf1,
  fun m ρ _ => Cert.Ff2.Gen.frame m ρ,
  fun m ρ _ => Cert.Ff2Ideal.Gen.frame m ρ,
  refFrameFf2,
  fun m ρ _ => Cert.MemKv.Gen.frame m ρ,
  fun m ρ _ => Cert.MemKvIdeal.Gen.frame m ρ,
  refFrameMemKv,
  fun m ρ _ => Cert.FinalNorm.Gen.frame m ρ,
  fun m ρ _ => Cert.FinalNormIdeal.Gen.frame m ρ,
  refFrameFinalNorm,
  fun m ρ _ => Cert.HeadsOut.Gen.frame m ρ,
  fun m ρ _ => Cert.HeadsOutIdeal.Gen.frame m ρ,
  refFrameHeadsOut,
  fun m ρ _ => Cert.Merge.Gen.frame m ρ,
  fun m ρ _ => Cert.MergeIdeal.Gen.frame m ρ,
  refFrameMerge,
  fun m ρ _ => Cert.MemAttn.Gen.frame m ρ,
  fun m ρ _ => Cert.MemAttnIdeal.Gen.frame m ρ,
  refFrameMemAttn,
  fun m ρ _ => Cert.FoxGate.Gen.frame m ρ,
  fun m ρ _ => Cert.FoxGateIdeal.Gen.frame m ρ,
  refFrameFoxGate,
  fun m ρ _ => Cert.FoxAttn.Gen.frame m ρ,
  fun m ρ _ => Cert.FoxAttnIdeal.Gen.frame m ρ,
  trivial,
  valueRepack,
  trivial,
  valueInProj,
  trivial,
  valueOutProj,
  trivial,
  valueFf1,
  trivial,
  valueFf2,
  trivial,
  valueMemKv,
  trivial,
  valueFinalNorm,
  trivial,
  valueHeadsOut,
  trivial,
  valueMerge,
  trivial,
  valueMemAttn,
  trivial,
  valueFoxGate,
  trivial⟩

end Cert.Proof

end
